-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v15_0)) (v1 : (c : Dev Cert.KernelIdeal.nD) → Buf (Elt Ideal) ((c.tc : Thread Cert.KernelIdeal.nD Cert.KernelIdeal.τ).loc Cert.KernelIdeal.main_v15_1)) (v2 : (c : Dev Cert.KernelIdeal.nD) → Buf (Elt Ideal) ((c.tc : Thread Cert.KernelIdeal.nD Cert.KernelIdeal.τ).loc Cert.KernelIdeal.main_v15_2)) (v3 : (c : Dev Cert.KernelIdeal.nD) → Buf (Elt Ideal) ((c.tc : Thread Cert.KernelIdeal.nD Cert.KernelIdeal.τ).loc Cert.KernelIdeal.main_v15_3)) (v4 : (c : Dev Cert.KernelIdeal.nD) → Buf (Elt Ideal) ((c.tc : Thread Cert.KernelIdeal.nD Cert.KernelIdeal.τ).loc Cert.KernelIdeal.main_v15_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15_0) = v0 c
          ∧ r.2.mem ((c.tc : Thread Cert.KernelIdeal.nD Cert.KernelIdeal.τ).loc Cert.KernelIdeal.main_v15_1) = v1 c
          ∧ r.2.mem ((c.tc : Thread Cert.KernelIdeal.nD Cert.KernelIdeal.τ).loc Cert.KernelIdeal.main_v15_2) = v2 c
          ∧ r.2.mem ((c.tc : Thread Cert.KernelIdeal.nD Cert.KernelIdeal.τ).loc Cert.KernelIdeal.main_v15_3) = v3 c
          ∧ r.2.mem ((c.tc : Thread Cert.KernelIdeal.nD Cert.KernelIdeal.τ).loc Cert.KernelIdeal.main_v15_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_v119) = v1 c
          ∧ r.2.mem ((c.tc : Thread Cert.ReferenceIdeal.nD Cert.ReferenceIdeal.τ).loc Cert.ReferenceIdeal.main_v121) = v2 c
          ∧ r.2.mem ((c.tc : Thread Cert.ReferenceIdeal.nD Cert.ReferenceIdeal.τ).loc Cert.ReferenceIdeal.main_v16_0) = v3 c
          ∧ r.2.mem ((c.tc : Thread Cert.ReferenceIdeal.nD Cert.ReferenceIdeal.τ).loc Cert.ReferenceIdeal.main_v16_1) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x1024x3584 : Shape := ⟨3, ![4, 1024, 3584]⟩
abbrev S3584 : Shape := ⟨1, ![3584]⟩
abbrev S3584x2048 : Shape := ⟨2, ![3584, 2048]⟩
abbrev S28x16 : Shape := ⟨2, ![28, 16]⟩
abbrev S4 : Shape := ⟨1, ![4]⟩
abbrev S256 : Shape := ⟨1, ![256]⟩
abbrev S128 : Shape := ⟨1, ![128]⟩
abbrev S_ : Shape := ⟨0, ![]⟩
abbrev S4096x3584 : Shape := ⟨2, ![4096, 3584]⟩
abbrev S1x3584 : Shape := ⟨2, ![1, 3584]⟩
abbrev S1x256 : Shape := ⟨2, ![1, 256]⟩
abbrev S1x128 : Shape := ⟨2, ![1, 128]⟩
abbrev S4096x1024 : Shape := ⟨2, ![4096, 1024]⟩
abbrev S4096x512 : Shape := ⟨2, ![4096, 512]⟩
abbrev S4096x28 : Shape := ⟨2, ![4096, 28]⟩
abbrev S256x3584 : Shape := ⟨2, ![256, 3584]⟩
abbrev S256x1024 : Shape := ⟨2, ![256, 1024]⟩
abbrev S256x512 : Shape := ⟨2, ![256, 512]⟩
abbrev S256x28 : Shape := ⟨2, ![256, 28]⟩
abbrev S16x2048 : Shape := ⟨2, ![16, 2048]⟩
abbrev S28x2048 : Shape := ⟨2, ![28, 2048]⟩
abbrev S128x2048 : Shape := ⟨2, ![128, 2048]⟩
abbrev S1x2048 : Shape := ⟨2, ![1, 2048]⟩
abbrev S256x1 : Shape := ⟨2, ![256, 1]⟩
abbrev S256x128 : Shape := ⟨2, ![256, 128]⟩
abbrev S256x2048 : Shape := ⟨2, ![256, 2048]⟩
abbrev S1 : Shape := ⟨1, ![1]⟩
abbrev S256x256 : Shape := ⟨2, ![256, 256]⟩

abbrev nBuf : Space → Nat
  | .hbm => 31
  | .vmem => 20
  | .smem => 1
  | _ => 0

abbrev bufTy : (tb : Table) → Fin (tcTables nBuf tb) → BufTy
  | .hbm, ⟨0, _⟩ => ⟨S4x1024x3584, .bf16⟩
  | .hbm, ⟨1, _⟩ => ⟨S3584, .bf16⟩
  | .hbm, ⟨2, _⟩ => ⟨S3584x2048, .fp8e4m3⟩
  | .hbm, ⟨3, _⟩ => ⟨S28x16, .f32⟩
  | .hbm, ⟨4, _⟩ => ⟨S4, .i32⟩
  | .hbm, ⟨5, _⟩ => ⟨S256, .bf16⟩
  | .hbm, ⟨6, _⟩ => ⟨S256, .bf16⟩
  | .hbm, ⟨7, _⟩ => ⟨S128, .f32⟩
  | .hbm, ⟨8, _⟩ => ⟨S_, .f32⟩
  | .hbm, ⟨9, _⟩ => ⟨S128, .f32⟩
  | .hbm, ⟨10, _⟩ => ⟨S128, .f32⟩
  | .hbm, ⟨11, _⟩ => ⟨S_, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S_, .f32⟩
  | .hbm, ⟨16, _⟩ => ⟨S128, .f32⟩
  | .hbm, ⟨17, _⟩ => ⟨S128, .f32⟩
  | .hbm, ⟨18, _⟩ => ⟨S_, .f32⟩
  | .hbm, ⟨19, _⟩ => ⟨S128, .f32⟩
  | .hbm, ⟨20, _⟩ => ⟨S128, .f32⟩
  | .hbm, ⟨21, _⟩ => ⟨S4096x3584, .bf16⟩
  | .hbm, ⟨22, _⟩ => ⟨S1x3584, .bf16⟩
  | .hbm, ⟨23, _⟩ => ⟨S1x256, .bf16⟩
  | .hbm, ⟨24, _⟩ => ⟨S1x256, .bf16⟩
  | .hbm, ⟨25, _⟩ => ⟨S1x128, .f32⟩
  | .hbm, ⟨26, _⟩ => ⟨S4096x1024, .bf16⟩
  | .hbm, ⟨27, _⟩ => ⟨S4096x512, .bf16⟩
  | .hbm, ⟨28, _⟩ => ⟨S4096x512, .bf16⟩
  | .hbm, ⟨29, _⟩ => ⟨S4096x3584, .fp8e4m3⟩
  | .hbm, ⟨30, _⟩ => ⟨S4096x28, .f32⟩
  | .local _ .vmem, ⟨0, _⟩ => ⟨S256x3584, .bf16⟩
  | .local _ .vmem, ⟨1, _⟩ => ⟨S256x3584, .bf16⟩
  | .local _ .vmem, ⟨2, _⟩ => ⟨S1x3584, .bf16⟩
  | .local _ .vmem, ⟨3, _⟩ => ⟨S3584x2048, .fp8e4m3⟩
  | .local _ .vmem, ⟨4, _⟩ => ⟨S28x16, .f32⟩
  | .local _ .vmem, ⟨5, _⟩ => ⟨S1x256, .bf16⟩
  | .local _ .vmem, ⟨6, _⟩ => ⟨S1x256, .bf16⟩
  | .local _ .vmem, ⟨7, _⟩ => ⟨S1x128, .f32⟩
  | .local _ .vmem, ⟨8, _⟩ => ⟨S256x1024, .bf16⟩
  | .local _ .vmem, ⟨9, _⟩ => ⟨S256x1024, .bf16⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S256x3584, .fp8e4m3⟩
  | .local _ .vmem, ⟨15, _⟩ => ⟨S256x3584, .fp8e4m3⟩
  | .local _ .vmem, ⟨16, _⟩ => ⟨S256x28, .f32⟩
  | .local _ .vmem, ⟨17, _⟩ => ⟨S256x28, .f32⟩
  | .local _ .vmem, ⟨18, _⟩ => ⟨S3584x2048, .bf16⟩
  | .local _ .vmem, ⟨19, _⟩ => ⟨S256x3584, .bf16⟩
  | .local _ .smem, ⟨0, _⟩ => ⟨S4, .i32⟩
  | _, _ => ⟨S4x1024x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15_0 : Ref sig .tc := ⟨.hbm, 26, rfl⟩
abbrev main_v15_1 : Ref sig .tc := ⟨.hbm, 27, rfl⟩
abbrev main_v15_2 : Ref sig .tc := ⟨.hbm, 28, rfl⟩
abbrev main_v15_3 : Ref sig .tc := ⟨.hbm, 29, rfl⟩
abbrev main_v15_4 : Ref sig .tc := ⟨.hbm, 30, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg8_1 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_scratch0 : Ref sig .tc := ⟨.vmem, 18, rfl⟩
abbrev cc0_scratch1 : Ref sig .tc := ⟨.vmem, 19, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨1, ![16], ![false]⟩

def k0_off1 (i : grid0.Coords) : Fin 1 → Nat :=
  let arg0 : BitVec 32 := BitVec.ofNat 32 (i 0).val
  let c256_i32 : BitVec 32 := 256#32
  let v876 : BitVec 32 := Scalar.muli arg0 c256_i32
  let c0_i32_209 : BitVec 32 := 0#32
  let v878 : BitVec 1 := Scalar.cmpi .sgt v876 c0_i32_209
  let v879 : BitVec 32 := Scalar.extui v878
  let c0_i32_210 : BitVec 32 := 0#32
  let v880 : BitVec 1 := Scalar.cmpi .slt v876 c0_i32_210
  let v881 : BitVec 32 := Scalar.extui v880
  let v882 : BitVec 32 := Scalar.subi v879 v881
  let c1024_i32 : BitVec 32 := 1024#32
  let c0_i32_211 : BitVec 32 := 0#32
  let v883 : BitVec 1 := Scalar.cmpi .sgt c1024_i32 c0_i32_211
  let v884 : BitVec 32 := Scalar.extui v883
  let c0_i32_212 : BitVec 32 := 0#32
  let v885 : BitVec 1 := Scalar.cmpi .slt c1024_i32 c0_i32_212
  let v886 : BitVec 32 := Scalar.extui v885
  let v887 : BitVec 32 := Scalar.subi v884 v886
  let v888 : BitVec 1 := Scalar.cmpi .ne v882 v887
  let v889 : BitVec 32 := Scalar.remsi v876 c1024_i32
  let c0_i32_213 : BitVec 32 := 0#32
  let v890 : BitVec 1 := Scalar.cmpi .ne v889 c0_i32_213
  let v891 : BitVec 1 := Scalar.andi v888 v890
  let v877 : BitVec 32 := Scalar.divsi v876 c1024_i32
  let c1_i32_214 : BitVec 32 := 1#32
  let v892 : BitVec 32 := Scalar.subi v877 c1_i32_214
  let v893 : BitVec 32 := Scalar.select v891 v892 v877
  let v894 : Index := Scalar.indexCast v893
  ![v894.toNat]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S4 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x3584 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3584x2048 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S28x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x3584 .fp8e4m3 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x28 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceIdeal.lean ====
abbrev S4x1024x3584 : Shape := ⟨3, ![4, 1024, 3584]⟩
abbrev S3584 : Shape := ⟨1, ![3584]⟩
abbrev S3584x2048 : Shape := ⟨2, ![3584, 2048]⟩
abbrev S28x16 : Shape := ⟨2, ![28, 16]⟩
abbrev S4 : Shape := ⟨1, ![4]⟩
abbrev S256 : Shape := ⟨1, ![256]⟩
abbrev S_ : Shape := ⟨0, ![]⟩
abbrev S4x1024 : Shape := ⟨2, ![4, 1024]⟩
abbrev S4x1024x1 : Shape := ⟨3, ![4, 1024, 1]⟩
abbrev S1x1x3584 : Shape := ⟨3, ![1, 1, 3584]⟩
abbrev S4096x3584 : Shape := ⟨2, ![4096, 3584]⟩
abbrev S4096x28 : Shape := ⟨2, ![4096, 28]⟩
abbrev S4096x28x128 : Shape := ⟨3, ![4096, 28, 128]⟩
abbrev S4096x28x1 : Shape := ⟨3, ![4096, 28, 1]⟩
abbrev S1x1x253 : Shape := ⟨3, ![1, 1, 253]⟩
abbrev S4096x28x253 : Shape := ⟨3, ![4096, 28, 253]⟩
abbrev S4x1024x28x128 : Shape := ⟨4, ![4, 1024, 28, 128]⟩
abbrev S4x1024x28x1 : Shape := ⟨4, ![4, 1024, 28, 1]⟩
abbrev S28x128x16x128 : Shape := ⟨4, ![28, 128, 16, 128]⟩
abbrev S28x1x16x1 : Shape := ⟨4, ![28, 1, 16, 1]⟩
abbrev S4x1024x2048 : Shape := ⟨3, ![4, 1024, 2048]⟩
abbrev S4x1024x1024 : Shape := ⟨3, ![4, 1024, 1024]⟩
abbrev S4x1024x4x256 : Shape := ⟨4, ![4, 1024, 4, 256]⟩
abbrev S4x1024x512 : Shape := ⟨3, ![4, 1024, 512]⟩
abbrev S4x1024x2x256 : Shape := ⟨4, ![4, 1024, 2, 256]⟩
abbrev S4x1024x4 : Shape := ⟨3, ![4, 1024, 4]⟩
abbrev S4x1024x4x1 : Shape := ⟨4, ![4, 1024, 4, 1]⟩
abbrev S1x1x1x256 : Shape := ⟨4, ![1, 1, 1, 256]⟩
abbrev S4x1024x2 : Shape := ⟨3, ![4, 1024, 2]⟩
abbrev S4x1024x2x1 : Shape := ⟨4, ![4, 1024, 2, 1]⟩
abbrev S4x1 : Shape := ⟨2, ![4, 1]⟩
abbrev S1024 : Shape := ⟨1, ![1024]⟩
abbrev S1x1024 : Shape := ⟨2, ![1, 1024]⟩
abbrev S128 : Shape := ⟨1, ![128]⟩
abbrev S1x1x128 : Shape := ⟨3, ![1, 1, 128]⟩
abbrev S4x1024x128 : Shape := ⟨3, ![4, 1024, 128]⟩
abbrev S4x1024x1x128 : Shape := ⟨4, ![4, 1024, 1, 128]⟩
abbrev S4x1024x4x128 : Shape := ⟨4, ![4, 1024, 4, 128]⟩
abbrev S4x1024x2x128 : Shape := ⟨4, ![4, 1024, 2, 128]⟩
abbrev S4096x1024 : Shape := ⟨2, ![4096, 1024]⟩
abbrev S4096x512 : Shape := ⟨2, ![4096, 512]⟩

abbrev nBuf : Space → Nat
  | .hbm => 145
  | .vmem => 6
  | .smem => 0
  | _ => 0

abbrev hbmTy0_0 (i : Nat) : BufTy := match i % 128 with
  | 0 => ⟨S4x1024x3584, .bf16⟩
  | 1 => ⟨S3584, .bf16⟩
  | 2 => ⟨S3584x2048, .fp8e4m3⟩
  | 3 => ⟨S28x16, .f32⟩
  | 4 => ⟨S4, .i32⟩
  | 5 => ⟨S256, .bf16⟩
  | 6 => ⟨S256, .bf16⟩
  | 7 => ⟨S4x1024x3584, .f32⟩
  | 8 => ⟨S4x1024x3584, .f32⟩
  | 9 => ⟨S_, .f32⟩
  | 10 => ⟨S4x1024, .f32⟩
  | 11 => ⟨S4x1024x1, .f32⟩
  | 12 => ⟨S_, .f32⟩
  | 13 => ⟨S4x1024x1, .f32⟩
  | 14 => ⟨S4x1024x1, .f32⟩
  | 15 => ⟨S_, .f32⟩
  | 16 => ⟨S4x1024x1, .f32⟩
  | 17 => ⟨S4x1024x1, .f32⟩
  | 18 => ⟨S4x1024x1, .f32⟩
  | 19 => ⟨S4x1024x3584, .f32⟩
  | 20 => ⟨S4x1024x3584, .f32⟩
  | 21 => ⟨S3584, .f32⟩
  | 22 => ⟨S1x1x3584, .f32⟩
  | 23 => ⟨S4x1024x3584, .f32⟩
  | 24 => ⟨S4x1024x3584, .f32⟩
  | 25 => ⟨S4096x3584, .f32⟩
  | 26 => ⟨S4096x3584, .fp8e4m3⟩
  | 27 => ⟨S4096x28, .f32⟩
  | 28 => ⟨S4096x3584, .bf16⟩
  | 29 => ⟨S3584x2048, .bf16⟩
  | 30 => ⟨S4x1024x28x128, .bf16⟩
  | 31 => ⟨S4096x28, .bf16⟩
  | 32 => ⟨S4x1024x28x1, .bf16⟩
  | 33 => ⟨S4x1024x28x128, .bf16⟩
  | 34 => ⟨S4x1024x28x128, .bf16⟩
  | 35 => ⟨S4x1024x3584, .bf16⟩
  | 36 => ⟨S28x128x16x128, .bf16⟩
  | 37 => ⟨S28x16, .bf16⟩
  | 38 => ⟨S28x1x16x1, .bf16⟩
  | 39 => ⟨S28x128x16x128, .bf16⟩
  | 40 => ⟨S28x128x16x128, .bf16⟩
  | 41 => ⟨S3584x2048, .bf16⟩
  | 42 => ⟨S4x1024x2048, .f32⟩
  | 43 => ⟨S4x1024x1024, .f32⟩
  | 44 => ⟨S4x1024x4x256, .f32⟩
  | 45 => ⟨S4x1024x512, .f32⟩
  | 46 => ⟨S4x1024x2x256, .f32⟩
  | 47 => ⟨S4x1024x512, .f32⟩
  | 48 => ⟨S4x1024x2x256, .f32⟩
  | 49 => ⟨S4x1024x4x256, .f32⟩
  | 50 => ⟨S_, .f32⟩
  | 51 => ⟨S4x1024x4, .f32⟩
  | 52 => ⟨S4x1024x4x1, .f32⟩
  | 53 => ⟨S_, .f32⟩
  | 54 => ⟨S4x1024x4x1, .f32⟩
  | 55 => ⟨S4x1024x4x1, .f32⟩
  | 56 => ⟨S_, .f32⟩
  | 57 => ⟨S4x1024x4x1, .f32⟩
  | 58 => ⟨S4x1024x4x1, .f32⟩
  | 59 => ⟨S4x1024x4x1, .f32⟩
  | 60 => ⟨S4x1024x4x256, .f32⟩
  | 61 => ⟨S4x1024x4x256, .f32⟩
  | 62 => ⟨S256, .f32⟩
  | 63 => ⟨S1x1x1x256, .f32⟩
  | 64 => ⟨S4x1024x4x256, .f32⟩
  | 65 => ⟨S4x1024x4x256, .f32⟩
  | 66 => ⟨S4x1024x2x256, .f32⟩
  | 67 => ⟨S_, .f32⟩
  | 68 => ⟨S4x1024x2, .f32⟩
  | 69 => ⟨S4x1024x2x1, .f32⟩
  | 70 => ⟨S_, .f32⟩
  | 71 => ⟨S4x1024x2x1, .f32⟩
  | 72 => ⟨S4x1024x2x1, .f32⟩
  | 73 => ⟨S_, .f32⟩
  | 74 => ⟨S4x1024x2x1, .f32⟩
  | 75 => ⟨S4x1024x2x1, .f32⟩
  | 76 => ⟨S4x1024x2x1, .f32⟩
  | 77 => ⟨S4x1024x2x256, .f32⟩
  | 78 => ⟨S4x1024x2x256, .f32⟩
  | 79 => ⟨S256, .f32⟩
  | 80 => ⟨S1x1x1x256, .f32⟩
  | 81 => ⟨S4x1024x2x256, .f32⟩
  | 82 => ⟨S4x1024x2x256, .f32⟩
  | 83 => ⟨S4x1, .i32⟩
  | 84 => ⟨S1024, .i32⟩
  | 85 => ⟨S1x1024, .i32⟩
  | 86 => ⟨S4x1024, .i32⟩
  | 87 => ⟨S4x1024, .i32⟩
  | 88 => ⟨S4x1024, .i32⟩
  | 89 => ⟨S4x1024, .f32⟩
  | 90 => ⟨S128, .f32⟩
  | 91 => ⟨S_, .f32⟩
  | 92 => ⟨S128, .f32⟩
  | 93 => ⟨S128, .f32⟩
  | 94 => ⟨S_, .f32⟩
  | 95 => ⟨S128, .f32⟩
  | 96 => ⟨S128, .f32⟩
  | 97 => ⟨S128, .f32⟩
  | 98 => ⟨S_, .f32⟩
  | 99 => ⟨S128, .f32⟩
  | 100 => ⟨S128, .f32⟩
  | 101 => ⟨S_, .f32⟩
  | 102 => ⟨S128, .f32⟩
  | 103 => ⟨S128, .f32⟩
  | 104 => ⟨S4x1024x1, .f32⟩
  | 105 => ⟨S1x1x128, .f32⟩
  | 106 => ⟨S4x1024x128, .f32⟩
  | 107 => ⟨S4x1024x128, .f32⟩
  | 108 => ⟨S4x1024x128, .f32⟩
  | 109 => ⟨S4x1024x128, .f32⟩
  | 110 => ⟨S4x1024x1x128, .f32⟩
  | 111 => ⟨S4x1024x128, .f32⟩
  | 112 => ⟨S4x1024x1x128, .f32⟩
  | 113 => ⟨S4x1024x4x128, .f32⟩
  | 114 => ⟨S4x1024x4x128, .f32⟩
  | 115 => ⟨S4x1024x4x128, .f32⟩
  | 116 => ⟨S4x1024x4x128, .f32⟩
  | 117 => ⟨S4x1024x4x128, .f32⟩
  | 118 => ⟨S4x1024x4x128, .f32⟩
  | 119 => ⟨S4x1024x4x128, .f32⟩
  | 120 => ⟨S4x1024x4x128, .f32⟩
  | 121 => ⟨S4x1024x4x128, .f32⟩
  | 122 => ⟨S4x1024x4x128, .f32⟩
  | 123 => ⟨S4x1024x4x128, .f32⟩
  | 124 => ⟨S4x1024x4x128, .f32⟩
  | 125 => ⟨S4x1024x4x256, .f32⟩
  | 126 => ⟨S4x1024x2x128, .f32⟩
  | 127 => ⟨S4x1024x2x128, .f32⟩
  | _ => ⟨S4x1024x3584, .bf16⟩

abbrev hbmTy0_1 (i : Nat) : BufTy := match i % 128 with
  | 0 => ⟨S4x1024x2x128, .f32⟩
  | 1 => ⟨S4x1024x2x128, .f32⟩
  | 2 => ⟨S4x1024x2x128, .f32⟩
  | 3 => ⟨S4x1024x2x128, .f32⟩
  | 4 => ⟨S4x1024x2x128, .f32⟩
  | 5 => ⟨S4x1024x2x128, .f32⟩
  | 6 => ⟨S4x1024x2x128, .f32⟩
  | 7 => ⟨S4x1024x2x128, .f32⟩
  | 8 => ⟨S4x1024x2x128, .f32⟩
  | 9 => ⟨S4x1024x2x128, .f32⟩
  | 10 => ⟨S4x1024x2x256, .f32⟩
  | 11 => ⟨S4x1024x4x256, .bf16⟩
  | 12 => ⟨S4096x1024, .bf16⟩
  | 13 => ⟨S4x1024x2x256, .bf16⟩
  | 14 => ⟨S4096x512, .bf16⟩
  | 15 => ⟨S4x1024x2x256, .bf16⟩
  | 16 => ⟨S4096x512, .bf16⟩
  | _ => ⟨S4x1024x3584, .bf16⟩

abbrev hbmTy (i : Nat) : BufTy := match i / 128 with
  | 0 => hbmTy0_0 i
  | 1 => hbmTy0_1 i
  | _ => ⟨S4x1024x3584, .bf16⟩

abbrev bufTy : (tb : Table) → Fin (tcTables nBuf tb) → BufTy
  | .hbm, ⟨i, _⟩ => hbmTy i
  | .local _ .vmem, ⟨0, _⟩ => ⟨S4096x3584, .f32⟩
  | .local _ .vmem, ⟨1, _⟩ => ⟨S3584x2048, .fp8e4m3⟩
  | .local _ .vmem, ⟨2, _⟩ => ⟨S4096x3584, .fp8e4m3⟩
  | .local _ .vmem, ⟨3, _⟩ => ⟨S4096x28, .f32⟩
  | .local _ .vmem, ⟨4, _⟩ => ⟨S4096x3584, .bf16⟩
  | .local _ .vmem, ⟨5, _⟩ => ⟨S3584x2048, .bf16⟩
  | _, _ => ⟨S4x1024x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16_0 : Ref sig .tc := ⟨.hbm, 26, rfl⟩
abbrev main_v16_1 : Ref sig .tc := ⟨.hbm, 27, rfl⟩
abbrev main_v16_2 : Ref sig .tc := ⟨.hbm, 28, rfl⟩
abbrev main_v16_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_2 : Ref sig .tc := ⟨.hbm, 50, rfl⟩
abbrev main_v37 : Ref sig .tc := ⟨.hbm, 51, rfl⟩
abbrev main_v38 : Ref sig .tc := ⟨.hbm, 52, rfl⟩
abbrev main_cst_3 : Ref sig .tc := ⟨.hbm, 53, rfl⟩
abbrev main_v39 : Ref sig .tc := ⟨.hbm, 54, rfl⟩
abbrev main_v40 : Ref sig .tc := ⟨.hbm, 55, rfl⟩
abbrev main_cst_4 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_5 : Ref sig .tc := ⟨.hbm, 67, rfl⟩
abbrev main_v51 : Ref sig .tc := ⟨.hbm, 68, rfl⟩
abbrev main_v52 : Ref sig .tc := ⟨.hbm, 69, rfl⟩
abbrev main_cst_6 : Ref sig .tc := ⟨.hbm, 70, rfl⟩
abbrev main_v53 : Ref sig .tc := ⟨.hbm, 71, rfl⟩
abbrev main_v54 : Ref sig .tc := ⟨.hbm, 72, rfl⟩
abbrev main_cst_7 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_cst_8 : Ref sig .tc := ⟨.hbm, 91, rfl⟩
abbrev main_v72 : Ref sig .tc := ⟨.hbm, 92, rfl⟩
abbrev main_v73 : Ref sig .tc := ⟨.hbm, 93, rfl⟩
abbrev main_cst_9 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_cst_10 : Ref sig .tc := ⟨.hbm, 98, rfl⟩
abbrev main_v77 : Ref sig .tc := ⟨.hbm, 99, rfl⟩
abbrev main_v78 : Ref sig .tc := ⟨.hbm, 100, rfl⟩
abbrev main_cst_11 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S4096x3584 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3584x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x3584 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x28 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x3584 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3584x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Scale.lean ====
/-
  The scale of a group of the quantiser, over the extended reals.

  The kernel finds the exponent field of `v = a / 448` by comparing `v` with powers of two, the highest bit of the field first, and
  builds the scale and its inverse from the bits. The reference takes the least power of two above `v`, and divides one by it. The two
  agree at every magnitude `a`, also at the infinite ones and at those below the least normal number.
-/
module
public import Idealize.ShloMosaic.Lib.Pointwise
@[expose] public section
set_option maxRecDepth 16384
noncomputable section
namespace Cert.Qkv
open Idealize.ShloMosaic

/-- The number whose f32 pattern has the exponent field `f` and a zero significand. -/
def powBits (f : BitVec 32) : EReal := Ideal.ofBits .f32 (IntOp.shli ArithUnit.vector f 23#32)

/-- The three fields of the pattern `k <<< 23`. -/
theorem fields (k : Fin 256) :
    (((IntOp.shli ArithUnit.vector (BitVec.ofNat 32 k.val) 23#32).extractLsb' (8 + 23) 1 == 1#1) = false)
      ∧ ((IntOp.shli ArithUnit.vector (BitVec.ofNat 32 k.val) 23#32).extractLsb' 23 8).toNat = k.val
      ∧ ((IntOp.shli ArithUnit.vector (BitVec.ofNat 32 k.val) 23#32).extractLsb' 0 23).toNat = 0 := by
  revert k; decide

/-- A pattern with a zero sign, a normal exponent field `k` and a zero significand. -/
theorem ofBits_normal (b : BitVec 32) {k : ℕ} (h1 : 1 ≤ k) (h2 : k ≤ 254) (hs : (b.extractLsb' (8 + 23) 1 == 1#1) = false)
    (he : (b.extractLsb' 23 8).toNat = k) (hf : (b.extractLsb' 0 23).toNat = 0) :
    Ideal.ofBits .f32 b = (((2 : ℝ) ^ ((k : ℤ) - 127) : ℝ) : EReal) := by
  show Ideal.ieee 8 23 b = _
  unfold Ideal.ieee
  simp only [hs, he, hf]
  rw [if_neg (by norm_num; omega), if_neg (by omega)]
  congr 1
  push_cast
  simp only [Bool.false_eq_true, if_false, one_mul, add_zero]
  rw [show (8388608 : ℝ) = (2 : ℝ) ^ (23 : ℤ) by norm_num, ← zpow_add₀ (by norm_num : (2 : ℝ) ≠ 0)]
  congr 1
  ring

/-- A pattern with a zero sign, the field of all ones and a zero significand. -/
theorem ofBits_allOnes (b : BitVec 32) (hs : (b.extractLsb' (8 + 23) 1 == 1#1) = false)
    (he : (b.extractLsb' 23 8).toNat = 255) (hf : (b.extractLsb' 0 23).toNat = 0) : Ideal.ofBits .f32 b = ⊤ := by
  show Ideal.ieee 8 23 b = _
  unfold Ideal.ieee
  simp only [hs, he, hf]
  norm_num

/-- A normal exponent field `k` stands for `2 ^ (k - 127)`. -/
theorem powBits_coe {k : ℕ} (h1 : 1 ≤ k) (h2 : k ≤ 254) :
    powBits (BitVec.ofNat 32 k) = (((2 : ℝ) ^ ((k : ℤ) - 127) : ℝ) : EReal) := by
  obtain ⟨hs, he, hf⟩ := fields ⟨k, by omega⟩
  exact ofBits_normal _ h1 h2 hs he hf

/-- The field of all ones stands for infinity. -/
theorem powBits_top : powBits (BitVec.ofNat 32 255) = ⊤ := by
  obtain ⟨hs, he, hf⟩ := fields ⟨255, by omega⟩
  exact ofBits_allOnes _ hs he hf

/-- A larger field stands for a larger number. -/
theorem powBits_mono {k l : ℕ} (h1 : 1 ≤ k) (hkl : k ≤ l) (h2 : l ≤ 255) :
    powBits (BitVec.ofNat 32 k) ≤ powBits (BitVec.ofNat 32 l) := by
  rcases Nat.lt_or_ge l 255 with h | h
  · rw [powBits_coe h1 (by omega), powBits_coe (by omega) (by omega), EReal.coe_le_coe_iff]
    exact zpow_le_zpow_right₀ (by norm_num) (by omega)
  · obtain rfl : l = 255 := by omega
    rw [powBits_top]; exact le_top

/-- `f` is the exponent field of `v`: the largest field whose power is at most `v`, zero when there is none. -/
def IsField (v : EReal) (f : ℕ) : Prop :=
  f ≤ 255 ∧ ∀ k, 1 ≤ k → k ≤ 255 → (powBits (BitVec.ofNat 32 k) ≤ v ↔ k ≤ f)

/-- Every extended real has an exponent field. -/
theorem exists_field (v : EReal) : ∃ f, IsField v f := by
  classical
  refine ⟨Nat.findGreatest (fun k => k = 0 ∨ powBits (BitVec.ofNat 32 k) ≤ v) 255, Nat.findGreatest_le _, ?_⟩
  intro k h1 h2
  constructor
  · intro h
    exact Nat.le_findGreatest h2 (Or.inr h)
  · intro h
    have hs := Nat.findGreatest_spec (P := fun k => k = 0 ∨ powBits (BitVec.ofNat 32 k) ≤ v) (m := 0) (n := 255)
      (by omega) (Or.inl rfl)
    rcases hs with h0 | hs
    · omega
    · exact le_trans (powBits_mono h1 h (Nat.findGreatest_le _)) hs

/-- One step of the search: the bit `b` of the field is set when the power stays at most `v`. -/
def stepField (v : EReal) (f b : BitVec 32) : BitVec 32 :=
  if powBits (IntOp.addi f b) ≤ v then IntOp.addi f b else f

/-- The search: the eight bits of the field, the highest first. -/
def search (v : EReal) : BitVec 32 :=
  stepField v (stepField v (stepField v (stepField v (stepField v (stepField v (stepField v (stepField v 0#32 128#32) 64#32) 32#32)
    16#32) 8#32) 4#32) 2#32) 1#32

/-- One step keeps the field between the value found and the value found plus the bit. -/
theorem stepField_spec {v : EReal} {f : ℕ} (hf : IsField v f) {n b : ℕ} (hb : 1 ≤ b) (hn : n ≤ f) (hlt : f < n + 2 * b)
    (hle : n + 2 * b ≤ 256) :
    ∃ n', stepField v (BitVec.ofNat 32 n) (BitVec.ofNat 32 b) = BitVec.ofNat 32 n' ∧ n' ≤ f ∧ f < n' + b ∧ n' + b ≤ 256 := by
  have hadd : IntOp.addi (BitVec.ofNat 32 n) (BitVec.ofNat 32 b) = BitVec.ofNat 32 (n + b) := by
    simp [IntOp.addi, BitVec.ofNat_add]
  unfold stepField
  rw [hadd]
  by_cases h : n + b ≤ f
  · rw [if_pos ((hf.2 _ (by omega) (by omega)).2 h)]
    exact ⟨n + b, rfl, h, by omega, by omega⟩
  · rw [if_neg (fun hc => h ((hf.2 _ (by omega) (by omega)).1 hc))]
    exact ⟨n, rfl, hn, by omega, by omega⟩

/-- The search finds the exponent field. -/
theorem search_eq {v : EReal} {f : ℕ} (hf : IsField v f) : search v = BitVec.ofNat 32 f := by
  have h255 := hf.1
  unfold search
  obtain ⟨n1, e1, h1, l1, k1⟩ := stepField_spec hf (n := 0) (b := 128) (by omega) (by omega) (by omega) (by omega)
  rw [show (0#32 : BitVec 32) = BitVec.ofNat 32 0 from rfl, e1]
  obtain ⟨n2, e2, h2, l2, k2⟩ := stepField_spec hf (n := n1) (b := 64) (by omega) h1 (by omega) (by omega)
  rw [e2]
  obtain ⟨n3, e3, h3, l3, k3⟩ := stepField_spec hf (n := n2) (b := 32) (by omega) h2 (by omega) (by omega)
  rw [e3]
  obtain ⟨n4, e4, h4, l4, k4⟩ := stepField_spec hf (n := n3) (b := 16) (by omega) h3 (by omega) (by omega)
  rw [e4]
  obtain ⟨n5, e5, h5, l5, k5⟩ := stepField_spec hf (n := n4) (b := 8) (by omega) h4 (by omega) (by omega)
  rw [e5]
  obtain ⟨n6, e6, h6, l6, k6⟩ := stepField_spec hf (n := n5) (b := 4) (by omega) h5 (by omega) (by omega)
  rw [e6]
  obtain ⟨n7, e7, h7, l7, k7⟩ := stepField_spec hf (n := n6) (b := 2) (by omega) h6 (by omega) (by omega)
  rw [e7]
  obtain ⟨n8, e8, h8, l8, k8⟩ := stepField_spec hf (n := n7) (b := 1) (by omega) h7 (by omega) (by omega)
  rw [e8]
  congr 1
  omega

/-- The exponent the kernel takes from the field: zero for a zero, subnormal or infinite number, and where no larger power exists. -/
def expField (f : BitVec 32) : BitVec 32 :=
  Scalar.select (IntOp.ori (IntOp.cmpi .eq f 0#32) (IntOp.cmpi .sge f 254#32)) 0#32 (IntOp.subi f 126#32)

/-- The pattern of `2 ^ e`. -/
def pow2Word (e : BitVec 32) : BitVec 32 :=
  Scalar.select (IntOp.cmpi .eq e 4294967169#32) 4194304#32 (IntOp.shli ArithUnit.vector (IntOp.addi e 127#32) 23#32)

/-- The patterns of the scale and of its inverse at every field. -/
theorem words (f : Fin 256) :
    (pow2Word (expField (BitVec.ofNat 32 f.val)) =
        IntOp.shli ArithUnit.vector (BitVec.ofNat 32 (if 1 ≤ f.val ∧ f.val ≤ 253 then f.val + 1 else 127)) 23#32)
    ∧ (pow2Word (IntOp.subi 0#32 (expField (BitVec.ofNat 32 f.val))) =
        if f.val = 253 then 4194304#32 else
        IntOp.shli ArithUnit.vector (BitVec.ofNat 32 (if 1 ≤ f.val ∧ f.val ≤ 253 then 253 - f.val else 127)) 23#32) := by
  revert f; decide

/-- The exponent `e` of the kernel, from the magnitude `a` of the group. -/
def kexp (a : EReal) : BitVec 32 :=
  if a = 0 then 0#32 else expField (search (a * Ideal.ofBits .f32 991054117#32))

/-- The kernel's scale of a group of magnitude `a`. -/
def scaleOf (a : EReal) : EReal := Ideal.ofBits .f32 (pow2Word (kexp a))

/-- The kernel's inverse scale of a group of magnitude `a`. -/
def invOf (a : EReal) : EReal := Ideal.ofBits .f32 (pow2Word (IntOp.subi 0#32 (kexp a)))

/-- The least normal number is the power of the field 1. -/
theorem ofBits_tiny : Ideal.ofBits .f32 8388608#32 = powBits (BitVec.ofNat 32 1) := rfl

/-- The pattern of infinity. -/
theorem ofBits_inf : Ideal.ofBits .f32 2139095040#32 = ⊤ := powBits_top

/-- The pattern of minus infinity. -/
theorem ofBits_ninf : Ideal.ofBits .f32 4286578688#32 = ⊥ := by
  simp [Ideal.ofBits, Ideal.ieee]

/-- The pattern of 125. -/
theorem ofBits_125 : Ideal.ofBits .f32 1123680256#32 = ((125 : ℝ) : EReal) := by
  simp [Ideal.ofBits, Ideal.ieee, -EReal.coe_mul]; norm_num

/-- The subnormal pattern of `2 ^ (-127)`. -/
theorem ofBits_half_tiny : Ideal.ofBits .f32 4194304#32 = (((2 : ℝ) ^ (-127 : ℤ) : ℝ) : EReal) := by
  simp [Ideal.ofBits, Ideal.ieee, -EReal.coe_mul]
  norm_num

/-- The scale and its inverse, from the field of `a / 448`. -/
theorem scale_field {a : EReal} {f : ℕ} (hf : IsField (a * Ideal.ofBits .f32 991054117#32) f) :
    scaleOf a = (if 1 ≤ f ∧ f ≤ 253 then (((2 : ℝ) ^ ((f : ℤ) - 126) : ℝ) : EReal) else 1)
    ∧ invOf a = (if 1 ≤ f ∧ f ≤ 253 then (((2 : ℝ) ^ (126 - (f : ℤ)) : ℝ) : EReal) else 1) := by
  have hk : kexp a = expField (BitVec.ofNat 32 f) := by
    unfold kexp
    rw [search_eq hf]
    split
    · rename_i h0
      have : f = 0 := by
        by_contra hne
        have h1 := (hf.2 1 (by omega) (by omega)).2 (by omega)
        rw [h0, zero_mul, powBits_coe (by omega) (by omega), ← EReal.coe_zero, EReal.coe_le_coe_iff] at h1
        have : (0 : ℝ) < (2 : ℝ) ^ (((1 : ℕ) : ℤ) - 127) := by positivity
        linarith
      rw [this]; decide
    · rfl
  have hone : powBits (BitVec.ofNat 32 127) = 1 := by
    rw [powBits_coe (by omega) (by omega)]; norm_num
  obtain ⟨w1, w2⟩ := words ⟨f, by have := hf.1; omega⟩
  simp only at w1 w2
  unfold scaleOf invOf
  rw [hk, w1, w2]
  by_cases h : 1 ≤ f ∧ f ≤ 253
  · rw [if_pos h, if_pos h, if_pos h, if_pos h]
    constructor
    · show powBits _ = _
      rw [powBits_coe (by omega) (by omega)]
      congr 2; push_cast; ring
    · by_cases h3 : f = 253
      · rw [if_pos h3, ofBits_half_tiny, h3]; norm_num
      · rw [if_neg h3]
        show powBits _ = _
        rw [powBits_coe (by omega) (by omega)]
        congr 2
        rw [Nat.cast_sub (by omega)]; push_cast; ring
  · rw [if_neg h, if_neg h, if_neg h, if_neg h, if_neg (by omega)]
    exact ⟨hone, hone⟩

/-- The reference's least power of two above `v`. -/
def above (v : EReal) : EReal :=
  Finset.fold min (Ideal.ofBits .f32 2139095040#32)
    (fun x : Fin 253 =>
      if v < FloatOps.exp2 (F := Ideal) (φ := .f32) (FloatOps.sitofp (F := Ideal) FTy.f32 (BitVec.ofNat 32 x.val) - Ideal.ofBits .f32 1123680256#32)
      then FloatOps.exp2 (F := Ideal) (φ := .f32) (FloatOps.sitofp (F := Ideal) FTy.f32 (BitVec.ofNat 32 x.val) - Ideal.ofBits .f32 1123680256#32)
      else Ideal.ofBits .f32 2139095040#32) Finset.univ

/-- The powers the reference compares with are those of the fields 2 to 254. -/
theorem exp2_power (x : Fin 253) :
    FloatOps.exp2 (F := Ideal) (φ := .f32) (FloatOps.sitofp (F := Ideal) FTy.f32 (BitVec.ofNat 32 x.val) - Ideal.ofBits .f32 1123680256#32)
      = powBits (BitVec.ofNat 32 (x.val + 2)) := by
  have hx := x.isLt
  have e1 : (FloatOps.sitofp (F := Ideal) FTy.f32 (BitVec.ofNat 32 x.val) : EReal) = ((x.val : ℝ) : EReal) := by
    show (((BitVec.ofNat 32 x.val).toInt : ℝ) : EReal) = _
    congr 1
    have : (BitVec.ofNat 32 x.val).toInt = (x.val : ℤ) := by
      rw [BitVec.toInt_eq_toNat_of_lt (by rw [BitVec.toNat_ofNat]; omega), BitVec.toNat_ofNat]
      congr 1
      omega
    rw [this]; norm_cast
  rw [e1, ofBits_125, powBits_coe (by omega) (by omega)]
  show Ideal.exp2 (((x.val : ℝ) : EReal) - ((125 : ℝ) : EReal)) = _
  rw [← EReal.coe_sub, Ideal.exp2_coe]
  congr 1
  show (2 : ℝ) ^ ((x.val : ℝ) - 125) = _
  rw [← Real.rpow_intCast]
  congr 1
  push_cast; ring

/-- The least power above a number of field `f`. -/
theorem above_field {v : EReal} {f : ℕ} (hf : IsField v f) (h1 : 1 ≤ f) :
    above v = if f ≤ 253 then powBits (BitVec.ofNat 32 (f + 1)) else ⊤ := by
  have hlt : ∀ k, 1 ≤ k → k ≤ 255 → (v < powBits (BitVec.ofNat 32 k) ↔ f < k) := by
    intro k a b
    rw [← not_le, hf.2 k a b, not_le]
  unfold above
  simp only [exp2_power, ofBits_inf]
  apply le_antisymm
  · split
    · rename_i h
      rw [Finset.fold_min_le]
      refine Or.inr ⟨⟨f - 1, by omega⟩, Finset.mem_univ _, ?_⟩
      simp only [show f - 1 + 2 = f + 1 by omega]
      rw [if_pos ((hlt _ (by omega) (by omega)).2 (by omega))]
    · exact le_top
  · rw [Finset.le_fold_min]
    refine ⟨le_top, fun x _ => ?_⟩
    have hx := x.isLt
    split_ifs with h h' h'
    · exact powBits_mono (by omega) ((hlt _ (by omega) (by omega)).1 h') (by omega)
    · exact le_top
    · have := (hlt _ (by omega) (by omega)).1 h'
      omega
    · exact le_top

/-- The reference's scale of a group of magnitude `a`. -/
def rscale (a : EReal) : EReal :=
  Scalar.select (IntOp.ori (IntOp.ori (BitVec.ofBool (decide (a = 0)))
      (BitVec.ofBool (decide (a * Ideal.ofBits .f32 991054117#32 < Ideal.ofBits .f32 8388608#32))))
      (BitVec.ofBool (decide (above (a * Ideal.ofBits .f32 991054117#32) = Ideal.ofBits .f32 2139095040#32))))
    1 (above (a * Ideal.ofBits .f32 991054117#32))

/-- A choice by three conditions joined by or. -/
theorem select_ofBool3 {p q r : Prop} [Decidable p] [Decidable q] [Decidable r] (x y : EReal) :
    Scalar.select (IntOp.ori (IntOp.ori (BitVec.ofBool (decide p)) (BitVec.ofBool (decide q))) (BitVec.ofBool (decide r))) x y
      = if p ∨ q ∨ r then x else y := by
  by_cases hp : p <;> by_cases hq : q <;> by_cases hr : r <;> simp [hp, hq, hr, Scalar.select, IntOp.ori]

/-- The two scales agree. -/
theorem rscale_eq (a : EReal) : rscale a = scaleOf a := by
  obtain ⟨f, hf⟩ := exists_field (a * Ideal.ofBits .f32 991054117#32)
  rw [(scale_field hf).1]
  unfold rscale
  rw [select_ofBool3, ofBits_tiny, ofBits_inf]
  have hlow : a * Ideal.ofBits .f32 991054117#32 < powBits (BitVec.ofNat 32 1) ↔ f < 1 := by
    rw [← not_le, hf.2 1 (by omega) (by omega), not_le]
  simp only [hlow]
  by_cases h0 : f < 1
  · rw [if_pos (Or.inr (Or.inl h0)), if_neg (by omega)]
  · rw [above_field hf (by omega)]
    have ha : a ≠ 0 := by
      rintro rfl
      have h1 := (hf.2 1 (by omega) (by omega)).2 (by omega)
      rw [zero_mul, powBits_coe (by omega) (by omega), ← EReal.coe_zero, EReal.coe_le_coe_iff] at h1
      have : (0 : ℝ) < (2 : ℝ) ^ (((1 : ℕ) : ℤ) - 127) := by positivity
      linarith
    by_cases h : f ≤ 253
    · rw [if_pos h, powBits_coe (by omega) (by omega), if_neg, if_pos ⟨by omega, h⟩]
      · congr 2; push_cast; ring
      · rintro (h' | h' | h')
        · exact ha h'
        · exact h0 h'
        · exact EReal.coe_ne_top _ h'
    · rw [if_neg h, if_pos (Or.inr (Or.inr rfl)), if_neg (by omega)]

/-- One divided by the scale is the kernel's inverse scale. -/
theorem div_scaleOf (a : EReal) : Ideal.div 1 (scaleOf a) = invOf a := by
  obtain ⟨f, hf⟩ := exists_field (a * Ideal.ofBits .f32 991054117#32)
  rw [(scale_field hf).1, (scale_field hf).2]
  split
  · rw [Ideal.div_coe (by positivity), one_mul]
    congr 1
    rw [one_div, ← zpow_neg]
    congr 1; ring
  · rw [← EReal.coe_one, Ideal.div_coe (by norm_num)]
    norm_num

end Cert.Qkv
-- ==== Proof.Spec.lean ====
/-
  The fused layer of one row, over the extended reals: RMS norm, quantiser, product with the scaled weight, head norm and rotation.
-/
module
public import proofs.«01_k».proof.Proof.Scale
@[expose] public section
set_option maxRecDepth 16384
noncomputable section
namespace Cert.Qkv
open Idealize.ShloMosaic

/-- The normalised row `x` times the gain `w`: the mean square is over `c` columns. -/
def normOf {n : ℕ} (c : EReal) (x w : Fin n → EReal) (d : Fin n) : EReal :=
  x d * Ideal.rsqrt (Ideal.div (∑ k, x k * x k) c + Ideal.ofBits .f32 897988541#32) * w d

/-- The row's RMS norm. -/
def hOf (x w : Fin 3584 → EReal) : Fin 3584 → EReal := normOf (Ideal.ofBits .f32 1163919360#32) x w

/-- The magnitude of group `g` of a row. -/
def amaxOf (h : Fin 3584 → EReal) (g : Fin 28) : EReal :=
  Finset.fold max (Ideal.ofBits .f32 4286578688#32)
    (fun x : Fin 128 => FloatOps.absf (F := Ideal) (φ := .f32) (h ⟨128 * g.val + x.val, by omega⟩)) Finset.univ

/-- The group of a column. -/
def grp (d : Fin 3584) : Fin 28 := ⟨d.val / 128, by omega⟩

/-- The clipped code of column `d` of a row, of inverse scales `inv`. -/
def clipOf (h : EReal) (inv : EReal) : EReal :=
  min (Ideal.ofBits .f32 0x43E00000#32) (max (Ideal.ofBits .f32 0xC3E00000#32) (h * inv))

/-- The code of column `d` of a row. -/
def codeOf (h : Fin 3584 → EReal) (d : Fin 3584) : EReal := clipOf (h d) (invOf (amaxOf h (grp d)))

/-- The value the code of column `d` stands for. -/
def xaOf (h : Fin 3584 → EReal) (d : Fin 3584) : EReal := codeOf h d * scaleOf (amaxOf h (grp d))

/-- The product of a row with a matrix. -/
def projOf (xa : Fin 3584 → EReal) (wa : Fin 3584 → Fin 2048 → EReal) (n : Fin 2048) : EReal := ∑ k, xa k * wa k n

/-- The scaled weight. -/
def waOf (w : Fin 3584 → Fin 2048 → EReal) (s : Fin 28 → Fin 16 → EReal) (k : Fin 3584) (n : Fin 2048) : EReal :=
  w k n * s (grp k) ⟨n.val / 128, by omega⟩

/-- The head norm. -/
def headOf (p w : Fin 256 → EReal) : Fin 256 → EReal := normOf (Ideal.ofBits .f32 1132462080#32) p w

/-- The rotation of a head by the angles `ang`. -/
def rotOf (n : Fin 256 → EReal) (ang : Fin 128 → EReal) (d : Fin 256) : EReal :=
  if h : d.val < 128 then
    n d * Ideal.cos (ang ⟨d.val, h⟩)
      - n ⟨128 + d.val, by omega⟩ * Ideal.sin (ang ⟨d.val, h⟩)
  else
    n d * Ideal.cos (ang ⟨d.val - 128, by omega⟩)
      + n ⟨d.val - 128, by omega⟩ * Ideal.sin (ang ⟨d.val - 128, by omega⟩)

end Cert.Qkv
-- ==== Proof.KScale.lean ====
module
public import proofs.«01_k».proof.Proof.Gen.KernelIdeal.Skeleton
public import proofs.«01_k».proof.Proof.Spec
@[expose] public section
set_option maxRecDepth 16384
noncomputable section
namespace Cert.KernelIdeal.Gen
open Idealize.ShloMosaic Cert.KernelIdeal Cert.Qkv

/-- One step of the search for the exponent field, as the body writes it. -/
def stepW (v : EReal) (f b : BitVec 32) : BitVec 32 := Scalar.select (FloatOps.cmpf (F := Ideal) (φ := .f32) .oge v (powBits (IntOp.addi f b))) (IntOp.addi f b) f

/-- It is the step of the specification. -/
theorem stepW_eq (v f b) : stepW v f b = stepField v f b := by
  unfold stepW stepField
  by_cases h : powBits (IntOp.addi f b) ≤ v
  · rw [if_pos h]
    show Scalar.select (BitVec.ofBool (decide (powBits (IntOp.addi f b) ≤ v))) _ _ = _
    simp [h, Scalar.select]
  · rw [if_neg h]
    show Scalar.select (BitVec.ofBool (decide (powBits (IntOp.addi f b) ≤ v))) _ _ = _
    simp [h, Scalar.select]

/-- The last seven steps of the search. -/
theorem pay53_at (a : FVec Ideal S256x128 .f32) (b c : IVec S256x128 32) (i : S256x128.Idx) :
    k0_pay53 a b c i =
      stepW (a i) (stepW (a i) (stepW (a i) (stepW (a i) (stepW (a i) (stepW (a i) (Scalar.select (FloatOps.cmpf (F := Ideal) (φ := .f32) .oge (a i) (powBits (c i))) (c i) (b i)) 32#32)
    16#32) 8#32) 4#32) 2#32) 1#32 := rfl

/-- The magnitude over 448, which the search reads. -/
theorem pay50_at (v : FVec Ideal S256x3584 .f32) (b : IVec S256x128 32) (v238 v239) (i : S256x128.Idx) :
    k0_pay50 v b v238 v239 i = k0_pay49 v b v238 v239 i * Ideal.ofBits .f32 991054117#32 := rfl

/-- The first step of the search. -/
theorem pay51_at (v : FVec Ideal S256x3584 .f32) (b : IVec S256x128 32) (v238 v239) (i : S256x128.Idx) :
    k0_pay51 v b v238 v239 i = stepField (k0_pay50 v b v238 v239 i) 0#32 128#32 := by
  rw [eq_ix2 i]
  generalize i 0 = r
  generalize i 1 = l
  unfold stepField powBits
  pointwise [k0_pay51]

/-- The candidate of the second step. -/
theorem pay52_at (v : FVec Ideal S256x3584 .f32) (b : IVec S256x128 32) (v238 v239) (i : S256x128.Idx) :
    k0_pay52 v b v238 v239 i = IntOp.addi (k0_pay51 v b v238 v239 i) 64#32 := rfl

/-- The body's steps together are the search. -/
theorem search_at (v : FVec Ideal S256x3584 .f32) (b : IVec S256x128 32) (v238 v239) (i : S256x128.Idx) :
    k0_pay53 (k0_pay50 v b v238 v239) (k0_pay51 v b v238 v239) (k0_pay52 v b v238 v239) i
      = search (k0_pay49 v b v238 v239 i * Ideal.ofBits .f32 991054117#32) := by
  rw [pay53_at, pay52_at]
  generalize hf : k0_pay51 v b v238 v239 i = f
  rw [show Scalar.select (FloatOps.cmpf (F := Ideal) (φ := .f32) .oge (k0_pay50 v b v238 v239 i) (powBits (IntOp.addi f 64#32)))
    (IntOp.addi f 64#32) f = stepW (k0_pay50 v b v238 v239 i) f 64#32 from rfl]
  rw [← hf, pay51_at, pay50_at]
  generalize k0_pay49 v b v238 v239 i * Ideal.ofBits .f32 991054117#32 = x
  simp only [stepW_eq, search]

/-- The body's scale is the specification's. -/
theorem scale_at (v : FVec Ideal S256x128 .f32) (b : IVec S256x128 32)  (i : S256x128.Idx) (hb : b i = search (v i * Ideal.ofBits .f32 991054117#32)) : k0_pay55 v b i = scaleOf (v i) := by
  rw [eq_ix2 i] at hb ⊢
  generalize i 0 = r at hb ⊢
  generalize i 1 = l at hb ⊢
  pointwise [k0_pay55, k0_pay54]
  rw [hb]
  rfl
/-- The body's inverse scale is the specification's. -/
theorem inv_at (v : FVec Ideal S256x128 .f32) (b : IVec S256x128 32)  (i : S256x128.Idx) (hb : b i = search (v i * Ideal.ofBits .f32 991054117#32)) : k0_pay56 v b i = invOf (v i) := by
  rw [eq_ix2 i] at hb ⊢
  generalize i 0 = r at hb ⊢
  generalize i 1 = l at hb ⊢
  pointwise [k0_pay56, k0_pay54]
  rw [hb]
  rfl
end Cert.KernelIdeal.Gen
-- ==== Proof.KAmax.lean ====
module
public import proofs.«01_k».proof.Proof.KScale
@[expose] public section
set_option maxRecDepth 16384
noncomputable section
namespace Cert.KernelIdeal.Gen
open Idealize.ShloMosaic Cert.KernelIdeal Cert.Qkv

/-- The body's normalised row is the RMS norm of the row. -/
theorem pay36_at (x : Vec Ideal S256x3584 .bf16) (w : Vec Ideal S1x3584 .bf16) (r : Fin 256) (d : Fin 3584) :
    k0_pay36 x w (ix2 r d) = hOf (fun d => x (ix2 r d)) (fun d => w (ix2 0 d)) d := by
  pointwise [k0_pay36]
  rfl

/-- The lanes' numbers. -/
def lanes : IVec S256x128 32 := iota Kind.tc S256x128 32 [1] iota_S256x128_d1_w32

/-- The magnitudes of the groups of 24, one in each lane. -/
def kamax24 (x : Vec Ideal S256x3584 .bf16) (w : Vec Ideal S1x3584 .bf16) : FVec Ideal S256x128 .f32 :=
  k0_pay47 (k0_pay36 x w) lanes
    (k0_pay44 (k0_pay36 x w) lanes
      (k0_pay42 (k0_pay36 x w) lanes
        (k0_pay39 (k0_pay36 x w) lanes (k0_pay37 x w) (k0_pay38 x w)) (k0_pay40 (k0_pay36 x w)) (k0_pay41 lanes))
      (k0_pay43 (k0_pay36 x w)))
    (k0_pay45 (k0_pay36 x w)) k0_pay46

/-- The magnitudes of all 28 groups, one in each lane. -/
def kamax (x : Vec Ideal S256x3584 .bf16) (w : Vec Ideal S1x3584 .bf16) : FVec Ideal S256x128 .f32 :=
  k0_pay49 (k0_pay36 x w) lanes (kamax24 x w) (k0_pay48 (k0_pay36 x w))

/-- A choice by lane number is a choice by the numbers themselves. -/
theorem select_lane {l g : ℕ} (hl : l < 128) (hg : g < 128) (x y : EReal) :
    Scalar.select (IntOp.cmpi CmpIPredicate.eq (BitVec.ofNat 32 l) (BitVec.ofNat 32 g)) x y = if l = g then x else y := by
  have h : (BitVec.ofNat 32 l = BitVec.ofNat 32 g) ↔ l = g := by
    rw [← BitVec.toNat_inj, BitVec.toNat_ofNat, BitVec.toNat_ofNat, Nat.mod_eq_of_lt (by omega), Nat.mod_eq_of_lt (by omega)]
  by_cases hlg : l = g
  · subst hlg; simp [Scalar.select, IntOp.cmpi]
  · have hne : ¬ (BitVec.ofNat 32 l = BitVec.ofNat 32 g) := fun e => hlg (h.1 e)
    rw [if_neg hlg]
    show (if BitVec.ofBool (BitVec.ofNat 32 l == BitVec.ofNat 32 g) = 1#1 then x else y) = y
    rw [beq_eq_false_iff_ne.2 hne]
    rfl

/-- Lane `l` holds the magnitude of group `l`. -/
theorem kamax_at (x : Vec Ideal S256x3584 .bf16) (w : Vec Ideal S1x3584 .bf16) (r : Fin 256) (l : Fin 28) :
    kamax x w (ix2 r ⟨l.val, by omega⟩) = amaxOf (hOf (fun d => x (ix2 r d)) (fun d => w (ix2 0 d))) l := by
  have hl : l.val < 128 := by omega
  pointwise [kamax, kamax24, lanes, k0_pay49, k0_pay48, k0_pay47, k0_pay46, k0_pay45, k0_pay44, k0_pay43, k0_pay42, k0_pay41,
    k0_pay40, k0_pay39, k0_pay38, k0_pay37]
  rw [show hOf (fun d => x (ix2 r d)) (fun d => w (ix2 0 d)) = fun d => k0_pay36 x w (ix2 r d) from
    funext fun d => (pay36_at x w r d).symm]
  generalize k0_pay36 x w = h
  repeat rw [select_lane hl (by omega)]
  fin_cases l <;> rfl

/-- The exponent fields of the magnitudes over 448. -/
def kfield (x : Vec Ideal S256x3584 .bf16) (w : Vec Ideal S1x3584 .bf16) : IVec S256x128 32 :=
  k0_pay53 (k0_pay50 (k0_pay36 x w) lanes (kamax24 x w) (k0_pay48 (k0_pay36 x w)))
    (k0_pay51 (k0_pay36 x w) lanes (kamax24 x w) (k0_pay48 (k0_pay36 x w)))
    (k0_pay52 (k0_pay36 x w) lanes (kamax24 x w) (k0_pay48 (k0_pay36 x w)))

/-- The body's exponent field is the one the search finds. -/
theorem kfield_at (x : Vec Ideal S256x3584 .bf16) (w : Vec Ideal S1x3584 .bf16) (i : S256x128.Idx) :
    kfield x w i = search (kamax x w i * Ideal.ofBits .f32 991054117#32) := search_at _ _ _ _ _

/-- The scales and the inverse scales, one in each lane. -/
def kscale (x : Vec Ideal S256x3584 .bf16) (w : Vec Ideal S1x3584 .bf16) : FVec Ideal S256x128 .f32 :=
  k0_pay55 (kamax x w) (kfield x w)

/-- The inverse scales, one in each lane. -/
def kinv (x : Vec Ideal S256x3584 .bf16) (w : Vec Ideal S1x3584 .bf16) : FVec Ideal S256x128 .f32 :=
  k0_pay56 (kamax x w) (kfield x w)

/-- Lane `l` of the scales holds the scale of group `l`. -/
theorem kscale_at (x : Vec Ideal S256x3584 .bf16) (w : Vec Ideal S1x3584 .bf16) (r : Fin 256) (l : Fin 28) :
    kscale x w (ix2 r ⟨l.val, by omega⟩) = scaleOf (amaxOf (hOf (fun d => x (ix2 r d)) (fun d => w (ix2 0 d))) l) := by
  unfold kscale
  rw [scale_at _ _ _ (kfield_at x w _)]
  exact congrArg scaleOf (kamax_at x w r l)

/-- Lane `l` of the inverse scales holds the inverse scale of group `l`. -/
theorem kinv_at (x : Vec Ideal S256x3584 .bf16) (w : Vec Ideal S1x3584 .bf16) (r : Fin 256) (l : Fin 28) :
    kinv x w (ix2 r ⟨l.val, by omega⟩) = invOf (amaxOf (hOf (fun d => x (ix2 r d)) (fun d => w (ix2 0 d))) l) := by
  unfold kinv
  rw [inv_at _ _ _ (kfield_at x w _)]
  exact congrArg invOf (kamax_at x w r l)

end Cert.KernelIdeal.Gen
-- ==== Proof.KPieces.lean ====
module
public import proofs.«01_k».proof.Proof.Gen.KernelIdeal.Skeleton
public import Idealize.ShloMosaic.Lib.Pipeline.ValueKit
public import proofs.«01_k».proof.Proof.KAmax
@[expose] public section
set_option maxRecDepth 16384
noncomputable section
namespace Cert.KernelIdeal.Gen
open Idealize.ShloMosaic Cert.KernelIdeal Cert.Qkv Idealize.ShloMosaic.Tactic

/-- Where a band of columns lies in its array. -/
theorem emb_lanes {m n w : Nat} (o : Nat) (hi : ∀ a, (![0, o] : Fin 2 → Nat) a + (![m, w] : Fin 2 → Nat) a ≤ (⟨2, ![m, n]⟩ : Shape).size a)
    (r : Fin m) (l : Fin w) :
    ∀ h, (Rect.unit (s := ⟨2, ![m, n]⟩) ![0, o] ![m, w] hi).emb (fun a => ix2 r l a) = ix2 r ⟨o + l.val, h⟩ := by
  intro h
  funext a
  ext
  rw [Rect.emb_apply]
  match a with
  | ⟨0, _⟩ => show 0 + 1 * r.val = r.val; omega
  | ⟨1, _⟩ => show o + 1 * l.val = o + l.val; omega

/-- Where a band of rows lies in its array. -/
theorem emb_rows {m n w : Nat} (o : Nat) (hi : ∀ a, (![o, 0] : Fin 2 → Nat) a + (![w, n] : Fin 2 → Nat) a ≤ (⟨2, ![m, n]⟩ : Shape).size a)
    (r : Fin w) (l : Fin n) :
    ∀ h, (Rect.unit (s := ⟨2, ![m, n]⟩) ![o, 0] ![w, n] hi).emb (fun a => ix2 r l a) = ix2 ⟨o + r.val, h⟩ l := by
  intro h
  funext a
  ext
  rw [Rect.emb_apply]
  match a with
  | ⟨0, _⟩ => show o + 1 * r.val = o + r.val; omega
  | ⟨1, _⟩ => show 0 + 1 * l.val = l.val; omega

/-- A band of columns that agrees with an array entry by entry is a piece of it. -/
theorem piece_lanes {m n w : Nat} {e : EltTy} (o : Nat) (ho : o + w ≤ n) (hi : ∀ a, (![0, o] : Fin 2 → Nat) a + (![m, w] : Fin 2 → Nat) a ≤ (⟨2, ![m, n]⟩ : Shape).size a)
    (P : Vec Ideal ⟨2, ![m, w]⟩ e) (G : Vec Ideal ⟨2, ![m, n]⟩ e)
    (H : ∀ r l, P (ix2 r l) = G (ix2 r ⟨o + l.val, by omega⟩)) (x : (Rect.unit (s := ⟨2, ![m, n]⟩) ![0, o] ![m, w] hi).shape.Idx) :
    P x = G ((Rect.unit (s := ⟨2, ![m, n]⟩) ![0, o] ![m, w] hi).emb x) := by
  refine (congrArg P (eq_ix2 (n0 := m) (n1 := w) x)).trans ((H _ _).trans (congrArg G ?_))
  exact (emb_lanes o hi (x 0) (x 1) _).symm.trans (congrArg _ (eq_ix2 (n0 := m) (n1 := w) x).symm)

/-- A band of rows that agrees with an array entry by entry is a piece of it. -/
theorem piece_rows {m n w : Nat} {e : EltTy} (o : Nat) (ho : o + w ≤ m) (hi : ∀ a, (![o, 0] : Fin 2 → Nat) a + (![w, n] : Fin 2 → Nat) a ≤ (⟨2, ![m, n]⟩ : Shape).size a)
    (P : Vec Ideal ⟨2, ![w, n]⟩ e) (G : Vec Ideal ⟨2, ![m, n]⟩ e)
    (H : ∀ r l, P (ix2 r l) = G (ix2 ⟨o + r.val, by omega⟩ l)) (x : (Rect.unit (s := ⟨2, ![m, n]⟩) ![o, 0] ![w, n] hi).shape.Idx) :
    P x = G ((Rect.unit (s := ⟨2, ![m, n]⟩) ![o, 0] ![w, n] hi).emb x) := by
  refine (congrArg P (eq_ix2 (n0 := w) (n1 := n) x)).trans ((H _ _).trans (congrArg G ?_))
  exact (emb_rows o hi (x 0) (x 1) _).symm.trans (congrArg _ (eq_ix2 (n0 := w) (n1 := n) x).symm)

/-- The clipped codes of a block. -/
def codesG (h : FVec Ideal S256x3584 .f32) (inv : FVec Ideal S256x128 .f32) : Vec Ideal S256x3584 .fp8e4m3 :=
  fun y => clipOf (h y) (inv (ix2 (y 0) ⟨(y 1).val / 128, by have : (y 1).val < 3584 := (y 1).isLt; omega⟩))

/-- The codes of group `g`. -/
theorem codesG_at (h : FVec Ideal S256x3584 .f32) (inv : FVec Ideal S256x128 .f32) (r : Fin 256) (g : Nat) (hg : g < 28) (l : Fin 128) :
   codesG h inv (ix2 r ⟨128 * g + l.val, by omega⟩) = clipOf (h (ix2 r ⟨128 * g + l.val, by omega⟩)) (inv (ix2 r ⟨g, by omega⟩)) := by
  unfold codesG
  congr 3
  ext
  show (128 * g + l.val) / 128 = g
  omega

/-- The dequantised activations of a block: the clipped codes, each times its group's scale. -/
def xaG (h : FVec Ideal S256x3584 .f32) (sc inv : FVec Ideal S256x128 .f32) : Vec Ideal S256x3584 .bf16 :=
  fun y => clipOf (h y) (inv (ix2 (y 0) ⟨(y 1).val / 128, by have : (y 1).val < 3584 := (y 1).isLt; omega⟩)) *
    sc (ix2 (y 0) ⟨(y 1).val / 128, by have : (y 1).val < 3584 := (y 1).isLt; omega⟩)

/-- The dequantised activations of group `g`. -/
theorem xaG_at (h : FVec Ideal S256x3584 .f32) (sc inv : FVec Ideal S256x128 .f32) (r : Fin 256) (g : Nat) (hg : g < 28) (l : Fin 128) :
   xaG h sc inv (ix2 r ⟨128 * g + l.val, by omega⟩) =
     clipOf (h (ix2 r ⟨128 * g + l.val, by omega⟩)) (inv (ix2 r ⟨g, by omega⟩)) * sc (ix2 r ⟨g, by omega⟩) := by
  unfold xaG
  have e : (128 * g + l.val) / 128 = g := by omega
  show clipOf _ (inv (ix2 r ⟨(128 * g + l.val) / 128, _⟩)) * sc (ix2 r ⟨(128 * g + l.val) / 128, _⟩) = _
  simp only [e]

/-- The dequantised weights: the codes times the scale of their group of rows and block of columns, `ws` being the
    scales spread over the columns. -/
def waG (w : Vec Ideal S3584x2048 .fp8e4m3) (ws : FVec Ideal S28x2048 .bf16) : Vec Ideal S3584x2048 .bf16 :=
  fun y => w y * ws (ix2 ⟨(y 0).val / 128, by have : (y 0).val < 3584 := (y 0).isLt; omega⟩ (y 1))

/-- The rows of the dequantised weight of group `g`. -/
theorem waG_at (w : Vec Ideal S3584x2048 .fp8e4m3) (ws : FVec Ideal S28x2048 .bf16) (r : Fin 128) (g : Nat) (hg : g < 28) (l : Fin 2048) :
   waG w ws (ix2 ⟨128 * g + r.val, by omega⟩ l) = w (ix2 ⟨128 * g + r.val, by omega⟩ l) * ws (ix2 ⟨g, hg⟩ l) := by
  unfold waG
  have e : (128 * g + r.val) / 128 = g := by omega
  congr 3
  ext; exact e

/-- What the body stores as the codes of this group. -/
theorem codes_27 (h : FVec Ideal S256x3584 .f32) (amx : FVec Ideal S256x128 .f32) (fld : IVec S256x128 32) (sc inv : FVec Ideal S256x128 .f32) (r : Fin 256) (l : Fin 128) :
    (k0_pay126 h inv : Vec Ideal S256x128 .fp8e4m3) (ix2 r l) = codesG h inv (ix2 r ⟨3456 + l.val, by omega⟩) := by
  refine Eq.trans ?_ (codesG_at h inv r 27 (by omega) l).symm
  unfold clipOf
  pointwise [k0_pay126]

/-- What the body stores as the codes of this group. -/
theorem codes_26 (h : FVec Ideal S256x3584 .f32) (amx : FVec Ideal S256x128 .f32) (fld : IVec S256x128 32) (sc inv : FVec Ideal S256x128 .f32) (r : Fin 256) (l : Fin 128) :
    (k0_pay124 h inv : Vec Ideal S256x128 .fp8e4m3) (ix2 r l) = codesG h inv (ix2 r ⟨3328 + l.val, by omega⟩) := by
  refine Eq.trans ?_ (codesG_at h inv r 26 (by omega) l).symm
  unfold clipOf
  pointwise [k0_pay124]

/-- What the body stores as the codes of this group. -/
theorem codes_25 (h : FVec Ideal S256x3584 .f32) (amx : FVec Ideal S256x128 .f32) (fld : IVec S256x128 32) (sc inv : FVec Ideal S256x128 .f32) (r : Fin 256) (l : Fin 128) :
    (k0_pay120 h inv : Vec Ideal S256x128 .fp8e4m3) (ix2 r l) = codesG h inv (ix2 r ⟨3200 + l.val, by omega⟩) := by
  refine Eq.trans ?_ (codesG_at h inv r 25 (by omega) l).symm
  unfold clipOf
  pointwise [k0_pay120]

/-- What the body stores as the codes of this group. -/
theorem codes_24 (h : FVec Ideal S256x3584 .f32) (amx : FVec Ideal S256x128 .f32) (fld : IVec S256x128 32) (sc inv : FVec Ideal S256x128 .f32) (r : Fin 256) (l : Fin 128) :
    (k0_pay118 h inv : Vec Ideal S256x128 .fp8e4m3) (ix2 r l) = codesG h inv (ix2 r ⟨3072 + l.val, by omega⟩) := by
  refine Eq.trans ?_ (codesG_at h inv r 24 (by omega) l).symm
  unfold clipOf
  pointwise [k0_pay118]

/-- What the body stores as the codes of this group. -/
theorem codes_23 (h : FVec Ideal S256x3584 .f32) (amx : FVec Ideal S256x128 .f32) (fld : IVec S256x128 32) (sc inv : FVec Ideal S256x128 .f32) (r : Fin 256) (l : Fin 128) :
    (k0_pay116 (k0_pay114 h inv) k0_pay115 : Vec Ideal S256x128 .fp8e4m3) (ix2 r l) = codesG h inv (ix2 r ⟨2944 + l.val, by omega⟩) := by
  refine Eq.trans ?_ (codesG_at h inv r 23 (by omega) l).symm
  unfold clipOf
  pointwise [k0_pay114, k0_pay115, k0_pay116]

/-- What the body stores as the codes of this group. -/
theorem codes_22 (h : FVec Ideal S256x3584 .f32) (amx : FVec Ideal S256x128 .f32) (fld : IVec S256x128 32) (sc inv : FVec Ideal S256x128 .f32) (r : Fin 256) (l : Fin 128) :
    (k0_pay112 h inv : Vec Ideal S256x128 .fp8e4m3) (ix2 r l) = codesG h inv (ix2 r ⟨2816 + l.val, by omega⟩) := by
  refine Eq.trans ?_ (codesG_at h inv r 22 (by omega) l).symm
  unfold clipOf
  pointwise [k0_pay112]

/-- What the body stores as the codes of this group. -/
theorem codes_21 (h : FVec Ideal S256x3584 .f32) (amx : FVec Ideal S256x128 .f32) (fld : IVec S256x128 32) (sc inv : FVec Ideal S256x128 .f32) (r : Fin 256) (l : Fin 128) :
    (k0_pay110 inv (k0_pay109 h) : Vec Ideal S256x128 .fp8e4m3) (ix2 r l) = codesG h inv (ix2 r ⟨2688 + l.val, by omega⟩) := by
  refine Eq.trans ?_ (codesG_at h inv r 21 (by omega) l).symm
  unfold clipOf
  pointwise [k0_pay109, k0_pay110]

/-- What the body stores as the codes of this group. -/
theorem codes_20 (h : FVec Ideal S256x3584 .f32) (amx : FVec Ideal S256x128 .f32) (fld : IVec S256x128 32) (sc inv : FVec Ideal S256x128 .f32) (r : Fin 256) (l : Fin 128) :
    (k0_pay107 h inv : Vec Ideal S256x128 .fp8e4m3) (ix2 r l) = codesG h inv (ix2 r ⟨2560 + l.val, by omega⟩) := by
  refine Eq.trans ?_ (codesG_at h inv r 20 (by omega) l).symm
  unfold clipOf
  pointwise [k0_pay107]

/-- What the body stores as the codes of this group. -/
theorem codes_19 (h : FVec Ideal S256x3584 .f32) (amx : FVec Ideal S256x128 .f32) (fld : IVec S256x128 32) (sc inv : FVec Ideal S256x128 .f32) (r : Fin 256) (l : Fin 128) :
    (k0_pay105 h inv : Vec Ideal S256x128 .fp8e4m3) (ix2 r l) = codesG h inv (ix2 r ⟨2432 + l.val, by omega⟩) := by
  refine Eq.trans ?_ (codesG_at h inv r 19 (by omega) l).symm
  unfold clipOf
  pointwise [k0_pay105]

/-- What the body stores as the codes of this group. -/
theorem codes_18 (h : FVec Ideal S256x3584 .f32) (amx : FVec Ideal S256x128 .f32) (fld : IVec S256x128 32) (sc inv : FVec Ideal S256x128 .f32) (r : Fin 256) (l : Fin 128) :
    (k0_pay101 h inv : Vec Ideal S256x128 .fp8e4m3) (ix2 r l) = codesG h inv (ix2 r ⟨2304 + l.val, by omega⟩) := by
  refine Eq.trans ?_ (codesG_at h inv r 18 (by omega) l).symm
  unfold clipOf
  pointwise [k0_pay101]

/-- What the body stores as the codes of this group. -/
theorem codes_17 (h : FVec Ideal S256x3584 .f32) (amx : FVec Ideal S256x128 .f32) (fld : IVec S256x128 32) (sc inv : FVec Ideal S256x128 .f32) (r : Fin 256) (l : Fin 128) :
    (k0_pay99 h inv : Vec Ideal S256x128 .fp8e4m3) (ix2 r l) = codesG h inv (ix2 r ⟨2176 + l.val, by omega⟩) := by
  refine Eq.trans ?_ (codesG_at h inv r 17 (by omega) l).symm
  unfold clipOf
  pointwise [k0_pay99]

/-- What the body stores as the codes of this group. -/
theorem codes_16 (h : FVec Ideal S256x3584 .f32) (amx : FVec Ideal S256x128 .f32) (fld : IVec S256x128 32) (sc inv : FVec Ideal S256x128 .f32) (r : Fin 256) (l : Fin 128) :
    ((k0_pay97 h inv) : Vec Ideal S256x128 .fp8e4m3) (ix2 r l) = codesG h inv (ix2 r ⟨2048 + l.val, by omega⟩) := by
  refine Eq.trans ?_ (codesG_at h inv r 16 (by omega) l).symm
  unfold clipOf
  pointwise [k0_pay97]

/-- What the body stores as the codes of this group. -/
theorem codes_15 (h : FVec Ideal S256x3584 .f32) (amx : FVec Ideal S256x128 .f32) (fld : IVec S256x128 32) (sc inv : FVec Ideal S256x128 .f32) (r : Fin 256) (l : Fin 128) :
    (k0_pay95 h inv : Vec Ideal S256x128 .fp8e4m3) (ix2 r l) = codesG h inv (ix2 r ⟨1920 + l.val, by omega⟩) := by
  refine Eq.trans ?_ (codesG_at h inv r 15 (by omega) l).symm
  unfold clipOf
  pointwise [k0_pay95]

/-- What the body stores as the codes of this group. -/
theorem codes_14 (h : FVec Ideal S256x3584 .f32) (amx : FVec Ideal S256x128 .f32) (fld : IVec S256x128 32) (sc inv : FVec Ideal S256x128 .f32) (r : Fin 256) (l : Fin 128) :
    (k0_pay93 (k0_pay91 h) (k0_pay92 inv) : Vec Ideal S256x128 .fp8e4m3) (ix2 r l) = codesG h inv (ix2 r ⟨1792 + l.val, by omega⟩) := by
  refine Eq.trans ?_ (codesG_at h inv r 14 (by omega) l).symm
  unfold clipOf
  pointwise [k0_pay91, k0_pay92, k0_pay93]

/-- What the body stores as the codes of this group. -/
theorem codes_13 (h : FVec Ideal S256x3584 .f32) (amx : FVec Ideal S256x128 .f32) (fld : IVec S256x128 32) (sc inv : FVec Ideal S256x128 .f32) (r : Fin 256) (l : Fin 128) :
    (k0_pay89 h inv : Vec Ideal S256x128 .fp8e4m3) (ix2 r l) = codesG h inv (ix2 r ⟨1664 + l.val, by omega⟩) := by
  refine Eq.trans ?_ (codesG_at h inv r 13 (by omega) l).symm
  unfold clipOf
  pointwise [k0_pay89]

/-- What the body stores as the codes of this group. -/
theorem codes_12 (h : FVec Ideal S256x3584 .f32) (amx : FVec Ideal S256x128 .f32) (fld : IVec S256x128 32) (sc inv : FVec Ideal S256x128 .f32) (r : Fin 256) (l : Fin 128) :
    (k0_pay87 h inv : Vec Ideal S256x128 .fp8e4m3) (ix2 r l) = codesG h inv (ix2 r ⟨1536 + l.val, by omega⟩) := by
  refine Eq.trans ?_ (codesG_at h inv r 12 (by omega) l).symm
  unfold clipOf
  pointwise [k0_pay87]

/-- What the body stores as the codes of this group. -/
theorem codes_11 (h : FVec Ideal S256x3584 .f32) (amx : FVec Ideal S256x128 .f32) (fld : IVec S256x128 32) (sc inv : FVec Ideal S256x128 .f32) (r : Fin 256) (l : Fin 128) :
    (k0_pay84 h inv : Vec Ideal S256x128 .fp8e4m3) (ix2 r l) = codesG h inv (ix2 r ⟨1408 + l.val, by omega⟩) := by
  refine Eq.trans ?_ (codesG_at h inv r 11 (by omega) l).symm
  unfold clipOf
  pointwise [k0_pay84]

/-- What the body stores as the codes of this group. -/
theorem codes_10 (h : FVec Ideal S256x3584 .f32) (amx : FVec Ideal S256x128 .f32) (fld : IVec S256x128 32) (sc inv : FVec Ideal S256x128 .f32) (r : Fin 256) (l : Fin 128) :
    (k0_pay82 h inv : Vec Ideal S256x128 .fp8e4m3) (ix2 r l) = codesG h inv (ix2 r ⟨1280 + l.val, by omega⟩) := by
  refine Eq.trans ?_ (codesG_at h inv r 10 (by omega) l).symm
  unfold clipOf
  pointwise [k0_pay82]

/-- What the body stores as the codes of this group. -/
theorem codes_9 (h : FVec Ideal S256x3584 .f32) (amx : FVec Ideal S256x128 .f32) (fld : IVec S256x128 32) (sc inv : FVec Ideal S256x128 .f32) (r : Fin 256) (l : Fin 128) :
    ((k0_pay80 h inv) : Vec Ideal S256x128 .fp8e4m3) (ix2 r l) = codesG h inv (ix2 r ⟨1152 + l.val, by omega⟩) := by
  refine Eq.trans ?_ (codesG_at h inv r 9 (by omega) l).symm
  unfold clipOf
  pointwise [k0_pay80]

/-- What the body stores as the codes of this group. -/
theorem codes_8 (h : FVec Ideal S256x3584 .f32) (amx : FVec Ideal S256x128 .f32) (fld : IVec S256x128 32) (sc inv : FVec Ideal S256x128 .f32) (r : Fin 256) (l : Fin 128) :
    (k0_pay78 h inv : Vec Ideal S256x128 .fp8e4m3) (ix2 r l) = codesG h inv (ix2 r ⟨1024 + l.val, by omega⟩) := by
  refine Eq.trans ?_ (codesG_at h inv r 8 (by omega) l).symm
  unfold clipOf
  pointwise [k0_pay78]

/-- What the body stores as the codes of this group. -/
theorem codes_7 (h : FVec Ideal S256x3584 .f32) (amx : FVec Ideal S256x128 .f32) (fld : IVec S256x128 32) (sc inv : FVec Ideal S256x128 .f32) (r : Fin 256) (l : Fin 128) :
    (k0_pay76 (k0_pay75 h inv) (FloatOps.ofBits .f32 3286237184#32) : Vec Ideal S256x128 .fp8e4m3) (ix2 r l) = codesG h inv (ix2 r ⟨896 + l.val, by omega⟩) := by
  refine Eq.trans ?_ (codesG_at h inv r 7 (by omega) l).symm
  unfold clipOf
  pointwise [k0_pay75, k0_pay76]

/-- What the body stores as the codes of this group. -/
theorem codes_6 (h : FVec Ideal S256x3584 .f32) (amx : FVec Ideal S256x128 .f32) (fld : IVec S256x128 32) (sc inv : FVec Ideal S256x128 .f32) (r : Fin 256) (l : Fin 128) :
    (k0_pay73 h inv : Vec Ideal S256x128 .fp8e4m3) (ix2 r l) = codesG h inv (ix2 r ⟨768 + l.val, by omega⟩) := by
  refine Eq.trans ?_ (codesG_at h inv r 6 (by omega) l).symm
  unfold clipOf
  pointwise [k0_pay73]

/-- What the body stores as the codes of this group. -/
theorem codes_5 (h : FVec Ideal S256x3584 .f32) (amx : FVec Ideal S256x128 .f32) (fld : IVec S256x128 32) (sc inv : FVec Ideal S256x128 .f32) (r : Fin 256) (l : Fin 128) :
    (k0_pay71 h inv : Vec Ideal S256x128 .fp8e4m3) (ix2 r l) = codesG h inv (ix2 r ⟨640 + l.val, by omega⟩) := by
  refine Eq.trans ?_ (codesG_at h inv r 5 (by omega) l).symm
  unfold clipOf
  pointwise [k0_pay71]

/-- What the body stores as the codes of this group. -/
theorem codes_4 (h : FVec Ideal S256x3584 .f32) (amx : FVec Ideal S256x128 .f32) (fld : IVec S256x128 32) (sc inv : FVec Ideal S256x128 .f32) (r : Fin 256) (l : Fin 128) :
    (k0_pay68 h inv : Vec Ideal S256x128 .fp8e4m3) (ix2 r l) = codesG h inv (ix2 r ⟨512 + l.val, by omega⟩) := by
  refine Eq.trans ?_ (codesG_at h inv r 4 (by omega) l).symm
  unfold clipOf
  pointwise [k0_pay68]

/-- What the body stores as the codes of this group. -/
theorem codes_3 (h : FVec Ideal S256x3584 .f32) (amx : FVec Ideal S256x128 .f32) (fld : IVec S256x128 32) (sc inv : FVec Ideal S256x128 .f32) (r : Fin 256) (l : Fin 128) :
    (k0_pay66 h inv : Vec Ideal S256x128 .fp8e4m3) (ix2 r l) = codesG h inv (ix2 r ⟨384 + l.val, by omega⟩) := by
  refine Eq.trans ?_ (codesG_at h inv r 3 (by omega) l).symm
  unfold clipOf
  pointwise [k0_pay66]

/-- What the body stores as the codes of this group. -/
theorem codes_2 (h : FVec Ideal S256x3584 .f32) (amx : FVec Ideal S256x128 .f32) (fld : IVec S256x128 32) (sc inv : FVec Ideal S256x128 .f32) (r : Fin 256) (l : Fin 128) :
    (k0_pay64 h inv : Vec Ideal S256x128 .fp8e4m3) (ix2 r l) = codesG h inv (ix2 r ⟨256 + l.val, by omega⟩) := by
  refine Eq.trans ?_ (codesG_at h inv r 2 (by omega) l).symm
  unfold clipOf
  pointwise [k0_pay64]

/-- What the body stores as the codes of this group. -/
theorem codes_1 (h : FVec Ideal S256x3584 .f32) (amx : FVec Ideal S256x128 .f32) (fld : IVec S256x128 32) (sc inv : FVec Ideal S256x128 .f32) (r : Fin 256) (l : Fin 128) :
    (k0_pay62 h inv : Vec Ideal S256x128 .fp8e4m3) (ix2 r l) = codesG h inv (ix2 r ⟨128 + l.val, by omega⟩) := by
  refine Eq.trans ?_ (codesG_at h inv r 1 (by omega) l).symm
  unfold clipOf
  pointwise [k0_pay62]

/-- What the body stores as the codes of this group. -/
theorem codes_0 (h : FVec Ideal S256x3584 .f32) (amx : FVec Ideal S256x128 .f32) (fld : IVec S256x128 32) (sc inv : FVec Ideal S256x128 .f32) (r : Fin 256) (l : Fin 128) :
    (k0_pay60 (k0_pay58 h amx fld) (FloatOps.ofBits .f32 1138753536#32) k0_pay59 : Vec Ideal S256x128 .fp8e4m3) (ix2 r l) = codesG h (k0_pay56 amx fld) (ix2 r ⟨0 + l.val, by omega⟩) := by
  refine Eq.trans ?_ (codesG_at h (k0_pay56 amx fld) r 0 (by omega) l).symm
  unfold clipOf
  pointwise [k0_pay54, k0_pay56, k0_pay58, k0_pay59, k0_pay60, k0_pay56]

/-- What the body stores as the dequantised activations of this group. -/
theorem xa_27 (h : FVec Ideal S256x3584 .f32) (amx : FVec Ideal S256x128 .f32) (fld : IVec S256x128 32) (sc inv : FVec Ideal S256x128 .f32) (r : Fin 256) (l : Fin 128) :
    ((k0_pay127 h sc inv) : Vec Ideal S256x128 .bf16) (ix2 r l) = xaG h sc inv (ix2 r ⟨3456 + l.val, by omega⟩) := by
  refine Eq.trans ?_ (xaG_at h sc inv r 27 (by omega) l).symm
  unfold clipOf
  pointwise [k0_pay126, k0_pay127]

/-- What the body stores as the dequantised activations of this group. -/
theorem xa_26 (h : FVec Ideal S256x3584 .f32) (amx : FVec Ideal S256x128 .f32) (fld : IVec S256x128 32) (sc inv : FVec Ideal S256x128 .f32) (r : Fin 256) (l : Fin 128) :
    (k0_pay125 h sc inv : Vec Ideal S256x128 .bf16) (ix2 r l) = xaG h sc inv (ix2 r ⟨3328 + l.val, by omega⟩) := by
  refine Eq.trans ?_ (xaG_at h sc inv r 26 (by omega) l).symm
  unfold clipOf
  pointwise [k0_pay124, k0_pay125]

/-- What the body stores as the dequantised activations of this group. -/
theorem xa_25 (h : FVec Ideal S256x3584 .f32) (amx : FVec Ideal S256x128 .f32) (fld : IVec S256x128 32) (sc inv : FVec Ideal S256x128 .f32) (r : Fin 256) (l : Fin 128) :
    (k0_pay123 (k0_pay121 h inv) (k0_pay122 sc) : Vec Ideal S256x128 .bf16) (ix2 r l) = xaG h sc inv (ix2 r ⟨3200 + l.val, by omega⟩) := by
  refine Eq.trans ?_ (xaG_at h sc inv r 25 (by omega) l).symm
  unfold clipOf
  pointwise [k0_pay120, k0_pay121, k0_pay122, k0_pay123]

/-- What the body stores as the dequantised activations of this group. -/
theorem xa_24 (h : FVec Ideal S256x3584 .f32) (amx : FVec Ideal S256x128 .f32) (fld : IVec S256x128 32) (sc inv : FVec Ideal S256x128 .f32) (r : Fin 256) (l : Fin 128) :
    (k0_pay119 h sc inv : Vec Ideal S256x128 .bf16) (ix2 r l) = xaG h sc inv (ix2 r ⟨3072 + l.val, by omega⟩) := by
  refine Eq.trans ?_ (xaG_at h sc inv r 24 (by omega) l).symm
  unfold clipOf
  pointwise [k0_pay118, k0_pay119]

/-- What the body stores as the dequantised activations of this group. -/
theorem xa_23 (h : FVec Ideal S256x3584 .f32) (amx : FVec Ideal S256x128 .f32) (fld : IVec S256x128 32) (sc inv : FVec Ideal S256x128 .f32) (r : Fin 256) (l : Fin 128) :
    (k0_pay117 sc (k0_pay114 h inv) k0_pay115 : Vec Ideal S256x128 .bf16) (ix2 r l) = xaG h sc inv (ix2 r ⟨2944 + l.val, by omega⟩) := by
  refine Eq.trans ?_ (xaG_at h sc inv r 23 (by omega) l).symm
  unfold clipOf
  pointwise [k0_pay114, k0_pay115, k0_pay116, k0_pay117]

/-- What the body stores as the dequantised activations of this group. -/
theorem xa_22 (h : FVec Ideal S256x3584 .f32) (amx : FVec Ideal S256x128 .f32) (fld : IVec S256x128 32) (sc inv : FVec Ideal S256x128 .f32) (r : Fin 256) (l : Fin 128) :
    (k0_pay113 h sc inv : Vec Ideal S256x128 .bf16) (ix2 r l) = xaG h sc inv (ix2 r ⟨2816 + l.val, by omega⟩) := by
  refine Eq.trans ?_ (xaG_at h sc inv r 22 (by omega) l).symm
  unfold clipOf
  pointwise [k0_pay112, k0_pay113]

/-- What the body stores as the dequantised activations of this group. -/
theorem xa_21 (h : FVec Ideal S256x3584 .f32) (amx : FVec Ideal S256x128 .f32) (fld : IVec S256x128 32) (sc inv : FVec Ideal S256x128 .f32) (r : Fin 256) (l : Fin 128) :
    (k0_pay111 sc inv (k0_pay109 h) : Vec Ideal S256x128 .bf16) (ix2 r l) = xaG h sc inv (ix2 r ⟨2688 + l.val, by omega⟩) := by
  refine Eq.trans ?_ (xaG_at h sc inv r 21 (by omega) l).symm
  unfold clipOf
  pointwise [k0_pay109, k0_pay110, k0_pay111]

/-- What the body stores as the dequantised activations of this group. -/
theorem xa_20 (h : FVec Ideal S256x3584 .f32) (amx : FVec Ideal S256x128 .f32) (fld : IVec S256x128 32) (sc inv : FVec Ideal S256x128 .f32) (r : Fin 256) (l : Fin 128) :
    (k0_pay108 h sc inv : Vec Ideal S256x128 .bf16) (ix2 r l) = xaG h sc inv (ix2 r ⟨2560 + l.val, by omega⟩) := by
  refine Eq.trans ?_ (xaG_at h sc inv r 20 (by omega) l).symm
  unfold clipOf
  pointwise [k0_pay107, k0_pay108]

/-- What the body stores as the dequantised activations of this group. -/
theorem xa_19 (h : FVec Ideal S256x3584 .f32) (amx : FVec Ideal S256x128 .f32) (fld : IVec S256x128 32) (sc inv : FVec Ideal S256x128 .f32) (r : Fin 256) (l : Fin 128) :
    (k0_pay106 h sc inv : Vec Ideal S256x128 .bf16) (ix2 r l) = xaG h sc inv (ix2 r ⟨2432 + l.val, by omega⟩) := by
  refine Eq.trans ?_ (xaG_at h sc inv r 19 (by omega) l).symm
  unfold clipOf
  pointwise [k0_pay105, k0_pay106]

/-- What the body stores as the dequantised activations of this group. -/
theorem xa_18 (h : FVec Ideal S256x3584 .f32) (amx : FVec Ideal S256x128 .f32) (fld : IVec S256x128 32) (sc inv : FVec Ideal S256x128 .f32) (r : Fin 256) (l : Fin 128) :
    (k0_pay104 (k0_pay102 h inv) (k0_pay103 sc) : Vec Ideal S256x128 .bf16) (ix2 r l) = xaG h sc inv (ix2 r ⟨2304 + l.val, by omega⟩) := by
  refine Eq.trans ?_ (xaG_at h sc inv r 18 (by omega) l).symm
  unfold clipOf
  pointwise [k0_pay101, k0_pay102, k0_pay103, k0_pay104]

/-- What the body stores as the dequantised activations of this group. -/
theorem xa_17 (h : FVec Ideal S256x3584 .f32) (amx : FVec Ideal S256x128 .f32) (fld : IVec S256x128 32) (sc inv : FVec Ideal S256x128 .f32) (r : Fin 256) (l : Fin 128) :
    (k0_pay100 h sc inv : Vec Ideal S256x128 .bf16) (ix2 r l) = xaG h sc inv (ix2 r ⟨2176 + l.val, by omega⟩) := by
  refine Eq.trans ?_ (xaG_at h sc inv r 17 (by omega) l).symm
  unfold clipOf
  pointwise [k0_pay100, k0_pay99]

/-- What the body stores as the dequantised activations of this group. -/
theorem xa_16 (h : FVec Ideal S256x3584 .f32) (amx : FVec Ideal S256x128 .f32) (fld : IVec S256x128 32) (sc inv : FVec Ideal S256x128 .f32) (r : Fin 256) (l : Fin 128) :
    (k0_pay98 sc (k0_pay97 h inv) : Vec Ideal S256x128 .bf16) (ix2 r l) = xaG h sc inv (ix2 r ⟨2048 + l.val, by omega⟩) := by
  refine Eq.trans ?_ (xaG_at h sc inv r 16 (by omega) l).symm
  unfold clipOf
  pointwise [k0_pay97, k0_pay98]

/-- What the body stores as the dequantised activations of this group. -/
theorem xa_15 (h : FVec Ideal S256x3584 .f32) (amx : FVec Ideal S256x128 .f32) (fld : IVec S256x128 32) (sc inv : FVec Ideal S256x128 .f32) (r : Fin 256) (l : Fin 128) :
    (k0_pay96 h sc inv : Vec Ideal S256x128 .bf16) (ix2 r l) = xaG h sc inv (ix2 r ⟨1920 + l.val, by omega⟩) := by
  refine Eq.trans ?_ (xaG_at h sc inv r 15 (by omega) l).symm
  unfold clipOf
  pointwise [k0_pay95, k0_pay96]

/-- What the body stores as the dequantised activations of this group. -/
theorem xa_14 (h : FVec Ideal S256x3584 .f32) (amx : FVec Ideal S256x128 .f32) (fld : IVec S256x128 32) (sc inv : FVec Ideal S256x128 .f32) (r : Fin 256) (l : Fin 128) :
    (k0_pay94 sc (k0_pay91 h) (k0_pay92 inv) : Vec Ideal S256x128 .bf16) (ix2 r l) = xaG h sc inv (ix2 r ⟨1792 + l.val, by omega⟩) := by
  refine Eq.trans ?_ (xaG_at h sc inv r 14 (by omega) l).symm
  unfold clipOf
  pointwise [k0_pay91, k0_pay92, k0_pay93, k0_pay94]

/-- What the body stores as the dequantised activations of this group. -/
theorem xa_13 (h : FVec Ideal S256x3584 .f32) (amx : FVec Ideal S256x128 .f32) (fld : IVec S256x128 32) (sc inv : FVec Ideal S256x128 .f32) (r : Fin 256) (l : Fin 128) :
    (k0_pay90 h sc inv : Vec Ideal S256x128 .bf16) (ix2 r l) = xaG h sc inv (ix2 r ⟨1664 + l.val, by omega⟩) := by
  refine Eq.trans ?_ (xaG_at h sc inv r 13 (by omega) l).symm
  unfold clipOf
  pointwise [k0_pay89, k0_pay90]

/-- What the body stores as the dequantised activations of this group. -/
theorem xa_12 (h : FVec Ideal S256x3584 .f32) (amx : FVec Ideal S256x128 .f32) (fld : IVec S256x128 32) (sc inv : FVec Ideal S256x128 .f32) (r : Fin 256) (l : Fin 128) :
    (k0_pay88 h sc inv : Vec Ideal S256x128 .bf16) (ix2 r l) = xaG h sc inv (ix2 r ⟨1536 + l.val, by omega⟩) := by
  refine Eq.trans ?_ (xaG_at h sc inv r 12 (by omega) l).symm
  unfold clipOf
  pointwise [k0_pay87, k0_pay88]

/-- What the body stores as the dequantised activations of this group. -/
theorem xa_11 (h : FVec Ideal S256x3584 .f32) (amx : FVec Ideal S256x128 .f32) (fld : IVec S256x128 32) (sc inv : FVec Ideal S256x128 .f32) (r : Fin 256) (l : Fin 128) :
    (k0_pay86 (k0_pay85 h sc inv) : Vec Ideal S256x128 .bf16) (ix2 r l) = xaG h sc inv (ix2 r ⟨1408 + l.val, by omega⟩) := by
  refine Eq.trans ?_ (xaG_at h sc inv r 11 (by omega) l).symm
  unfold clipOf
  pointwise [k0_pay84, k0_pay85, k0_pay86]

/-- What the body stores as the dequantised activations of this group. -/
theorem xa_10 (h : FVec Ideal S256x3584 .f32) (amx : FVec Ideal S256x128 .f32) (fld : IVec S256x128 32) (sc inv : FVec Ideal S256x128 .f32) (r : Fin 256) (l : Fin 128) :
    (k0_pay83 h sc inv : Vec Ideal S256x128 .bf16) (ix2 r l) = xaG h sc inv (ix2 r ⟨1280 + l.val, by omega⟩) := by
  refine Eq.trans ?_ (xaG_at h sc inv r 10 (by omega) l).symm
  unfold clipOf
  pointwise [k0_pay82, k0_pay83]

/-- What the body stores as the dequantised activations of this group. -/
theorem xa_9 (h : FVec Ideal S256x3584 .f32) (amx : FVec Ideal S256x128 .f32) (fld : IVec S256x128 32) (sc inv : FVec Ideal S256x128 .f32) (r : Fin 256) (l : Fin 128) :
    (k0_pay81 sc (k0_pay80 h inv) : Vec Ideal S256x128 .bf16) (ix2 r l) = xaG h sc inv (ix2 r ⟨1152 + l.val, by omega⟩) := by
  refine Eq.trans ?_ (xaG_at h sc inv r 9 (by omega) l).symm
  unfold clipOf
  pointwise [k0_pay80, k0_pay81]

/-- What the body stores as the dequantised activations of this group. -/
theorem xa_8 (h : FVec Ideal S256x3584 .f32) (amx : FVec Ideal S256x128 .f32) (fld : IVec S256x128 32) (sc inv : FVec Ideal S256x128 .f32) (r : Fin 256) (l : Fin 128) :
    (k0_pay79 h sc inv : Vec Ideal S256x128 .bf16) (ix2 r l) = xaG h sc inv (ix2 r ⟨1024 + l.val, by omega⟩) := by
  refine Eq.trans ?_ (xaG_at h sc inv r 8 (by omega) l).symm
  unfold clipOf
  pointwise [k0_pay78, k0_pay79]

/-- What the body stores as the dequantised activations of this group. -/
theorem xa_7 (h : FVec Ideal S256x3584 .f32) (amx : FVec Ideal S256x128 .f32) (fld : IVec S256x128 32) (sc inv : FVec Ideal S256x128 .f32) (r : Fin 256) (l : Fin 128) :
    (k0_pay77 sc (k0_pay75 h inv) (FloatOps.ofBits .f32 3286237184#32) : Vec Ideal S256x128 .bf16) (ix2 r l) = xaG h sc inv (ix2 r ⟨896 + l.val, by omega⟩) := by
  refine Eq.trans ?_ (xaG_at h sc inv r 7 (by omega) l).symm
  unfold clipOf
  pointwise [k0_pay75, k0_pay76, k0_pay77]

/-- What the body stores as the dequantised activations of this group. -/
theorem xa_6 (h : FVec Ideal S256x3584 .f32) (amx : FVec Ideal S256x128 .f32) (fld : IVec S256x128 32) (sc inv : FVec Ideal S256x128 .f32) (r : Fin 256) (l : Fin 128) :
    (k0_pay74 h sc inv : Vec Ideal S256x128 .bf16) (ix2 r l) = xaG h sc inv (ix2 r ⟨768 + l.val, by omega⟩) := by
  refine Eq.trans ?_ (xaG_at h sc inv r 6 (by omega) l).symm
  unfold clipOf
  pointwise [k0_pay73, k0_pay74]

/-- What the body stores as the dequantised activations of this group. -/
theorem xa_5 (h : FVec Ideal S256x3584 .f32) (amx : FVec Ideal S256x128 .f32) (fld : IVec S256x128 32) (sc inv : FVec Ideal S256x128 .f32) (r : Fin 256) (l : Fin 128) :
    (k0_pay72 h sc inv : Vec Ideal S256x128 .bf16) (ix2 r l) = xaG h sc inv (ix2 r ⟨640 + l.val, by omega⟩) := by
  refine Eq.trans ?_ (xaG_at h sc inv r 5 (by omega) l).symm
  unfold clipOf
  pointwise [k0_pay71, k0_pay72]

/-- What the body stores as the dequantised activations of this group. -/
theorem xa_4 (h : FVec Ideal S256x3584 .f32) (amx : FVec Ideal S256x128 .f32) (fld : IVec S256x128 32) (sc inv : FVec Ideal S256x128 .f32) (r : Fin 256) (l : Fin 128) :
    (k0_pay70 (k0_pay69 h sc inv) : Vec Ideal S256x128 .bf16) (ix2 r l) = xaG h sc inv (ix2 r ⟨512 + l.val, by omega⟩) := by
  refine Eq.trans ?_ (xaG_at h sc inv r 4 (by omega) l).symm
  unfold clipOf
  pointwise [k0_pay68, k0_pay69, k0_pay70]

/-- What the body stores as the dequantised activations of this group. -/
theorem xa_3 (h : FVec Ideal S256x3584 .f32) (amx : FVec Ideal S256x128 .f32) (fld : IVec S256x128 32) (sc inv : FVec Ideal S256x128 .f32) (r : Fin 256) (l : Fin 128) :
    (k0_pay67 h sc inv : Vec Ideal S256x128 .bf16) (ix2 r l) = xaG h sc inv (ix2 r ⟨384 + l.val, by omega⟩) := by
  refine Eq.trans ?_ (xaG_at h sc inv r 3 (by omega) l).symm
  unfold clipOf
  pointwise [k0_pay66, k0_pay67]

/-- What the body stores as the dequantised activations of this group. -/
theorem xa_2 (h : FVec Ideal S256x3584 .f32) (amx : FVec Ideal S256x128 .f32) (fld : IVec S256x128 32) (sc inv : FVec Ideal S256x128 .f32) (r : Fin 256) (l : Fin 128) :
    (k0_pay65 sc (k0_pay64 h inv) : Vec Ideal S256x128 .bf16) (ix2 r l) = xaG h sc inv (ix2 r ⟨256 + l.val, by omega⟩) := by
  refine Eq.trans ?_ (xaG_at h sc inv r 2 (by omega) l).symm
  unfold clipOf
  pointwise [k0_pay64, k0_pay65]

/-- What the body stores as the dequantised activations of this group. -/
theorem xa_1 (h : FVec Ideal S256x3584 .f32) (amx : FVec Ideal S256x128 .f32) (fld : IVec S256x128 32) (sc inv : FVec Ideal S256x128 .f32) (r : Fin 256) (l : Fin 128) :
    (k0_pay63 h sc inv : Vec Ideal S256x128 .bf16) (ix2 r l) = xaG h sc inv (ix2 r ⟨128 + l.val, by omega⟩) := by
  refine Eq.trans ?_ (xaG_at h sc inv r 1 (by omega) l).symm
  unfold clipOf
  pointwise [k0_pay62, k0_pay63]

/-- What the body stores as the dequantised activations of this group. -/
theorem xa_0 (h : FVec Ideal S256x3584 .f32) (amx : FVec Ideal S256x128 .f32) (fld : IVec S256x128 32) (sc inv : FVec Ideal S256x128 .f32) (r : Fin 256) (l : Fin 128) :
    (k0_pay61 sc (k0_pay58 h amx fld) (FloatOps.ofBits .f32 1138753536#32) k0_pay59 : Vec Ideal S256x128 .bf16) (ix2 r l) = xaG h sc (k0_pay56 amx fld) (ix2 r ⟨0 + l.val, by omega⟩) := by
  refine Eq.trans ?_ (xaG_at h sc (k0_pay56 amx fld) r 0 (by omega) l).symm
  unfold clipOf
  pointwise [k0_pay54, k0_pay56, k0_pay58, k0_pay59, k0_pay60, k0_pay61, k0_pay56]

/-- What the body stores as the dequantised weight of this group's rows. -/
theorem wa_27 (S : Vec Ideal S28x16 .f32) (ws : FVec Ideal S28x2048 .bf16) (hS : ws = k0_pay2 S) (w : Vec Ideal S3584x2048 .fp8e4m3) (W : Vec Ideal S128x2048 .fp8e4m3)
    (hW : ∀ r l, W (ix2 r l) = w (ix2 ⟨3456 + r.val, by omega⟩ l)) (r : Fin 128) (l : Fin 2048) :
    (k0_pay35 ws W : Vec Ideal S128x2048 .bf16) (ix2 r l) = waG w ws (ix2 ⟨3456 + r.val, by omega⟩ l) := by
  refine Eq.trans ?_ (waG_at w ws r 27 (by omega) l).symm

  refine Eq.trans (b := W (ix2 r l) * ws (ix2 ⟨27, by omega⟩ l)) ?_ (by rw [hW])

  pointwise [k0_pay35]

/-- What the body stores as the dequantised weight of this group's rows. -/
theorem wa_26 (S : Vec Ideal S28x16 .f32) (ws : FVec Ideal S28x2048 .bf16) (hS : ws = k0_pay2 S) (w : Vec Ideal S3584x2048 .fp8e4m3) (W : Vec Ideal S128x2048 .fp8e4m3)
    (hW : ∀ r l, W (ix2 r l) = w (ix2 ⟨3328 + r.val, by omega⟩ l)) (r : Fin 128) (l : Fin 2048) :
    (k0_pay34 ws W : Vec Ideal S128x2048 .bf16) (ix2 r l) = waG w ws (ix2 ⟨3328 + r.val, by omega⟩ l) := by
  refine Eq.trans ?_ (waG_at w ws r 26 (by omega) l).symm

  refine Eq.trans (b := W (ix2 r l) * ws (ix2 ⟨26, by omega⟩ l)) ?_ (by rw [hW])

  pointwise [k0_pay34]

/-- What the body stores as the dequantised weight of this group's rows. -/
theorem wa_25 (S : Vec Ideal S28x16 .f32) (ws : FVec Ideal S28x2048 .bf16) (hS : ws = k0_pay2 S) (w : Vec Ideal S3584x2048 .fp8e4m3) (W : Vec Ideal S128x2048 .fp8e4m3)
    (hW : ∀ r l, W (ix2 r l) = w (ix2 ⟨3200 + r.val, by omega⟩ l)) (r : Fin 128) (l : Fin 2048) :
    (k0_pay33 ws W : Vec Ideal S128x2048 .bf16) (ix2 r l) = waG w ws (ix2 ⟨3200 + r.val, by omega⟩ l) := by
  refine Eq.trans ?_ (waG_at w ws r 25 (by omega) l).symm

  refine Eq.trans (b := W (ix2 r l) * ws (ix2 ⟨25, by omega⟩ l)) ?_ (by rw [hW])

  pointwise [k0_pay33]

/-- What the body stores as the dequantised weight of this group's rows. -/
theorem wa_24 (S : Vec Ideal S28x16 .f32) (ws : FVec Ideal S28x2048 .bf16) (hS : ws = k0_pay2 S) (w : Vec Ideal S3584x2048 .fp8e4m3) (W : Vec Ideal S128x2048 .fp8e4m3)
    (hW : ∀ r l, W (ix2 r l) = w (ix2 ⟨3072 + r.val, by omega⟩ l)) (r : Fin 128) (l : Fin 2048) :
    (k0_pay32 ws (k0_pay31 W) : Vec Ideal S128x2048 .bf16) (ix2 r l) = waG w ws (ix2 ⟨3072 + r.val, by omega⟩ l) := by
  refine Eq.trans ?_ (waG_at w ws r 24 (by omega) l).symm

  refine Eq.trans (b := W (ix2 r l) * ws (ix2 ⟨24, by omega⟩ l)) ?_ (by rw [hW])

  pointwise [k0_pay31, k0_pay32]

/-- What the body stores as the dequantised weight of this group's rows. -/
theorem wa_23 (S : Vec Ideal S28x16 .f32) (ws : FVec Ideal S28x2048 .bf16) (hS : ws = k0_pay2 S) (w : Vec Ideal S3584x2048 .fp8e4m3) (W : Vec Ideal S128x2048 .fp8e4m3)
    (hW : ∀ r l, W (ix2 r l) = w (ix2 ⟨2944 + r.val, by omega⟩ l)) (r : Fin 128) (l : Fin 2048) :
    (k0_pay30 ws W : Vec Ideal S128x2048 .bf16) (ix2 r l) = waG w ws (ix2 ⟨2944 + r.val, by omega⟩ l) := by
  refine Eq.trans ?_ (waG_at w ws r 23 (by omega) l).symm

  refine Eq.trans (b := W (ix2 r l) * ws (ix2 ⟨23, by omega⟩ l)) ?_ (by rw [hW])

  pointwise [k0_pay30]

/-- What the body stores as the dequantised weight of this group's rows. -/
theorem wa_22 (S : Vec Ideal S28x16 .f32) (ws : FVec Ideal S28x2048 .bf16) (hS : ws = k0_pay2 S) (w : Vec Ideal S3584x2048 .fp8e4m3) (W : Vec Ideal S128x2048 .fp8e4m3)
    (hW : ∀ r l, W (ix2 r l) = w (ix2 ⟨2816 + r.val, by omega⟩ l)) (r : Fin 128) (l : Fin 2048) :
    (k0_pay29 ws W : Vec Ideal S128x2048 .bf16) (ix2 r l) = waG w ws (ix2 ⟨2816 + r.val, by omega⟩ l) := by
  refine Eq.trans ?_ (waG_at w ws r 22 (by omega) l).symm

  refine Eq.trans (b := W (ix2 r l) * ws (ix2 ⟨22, by omega⟩ l)) ?_ (by rw [hW])

  pointwise [k0_pay29]

/-- What the body stores as the dequantised weight of this group's rows. -/
theorem wa_21 (S : Vec Ideal S28x16 .f32) (ws : FVec Ideal S28x2048 .bf16) (hS : ws = k0_pay2 S) (w : Vec Ideal S3584x2048 .fp8e4m3) (W : Vec Ideal S128x2048 .fp8e4m3)
    (hW : ∀ r l, W (ix2 r l) = w (ix2 ⟨2688 + r.val, by omega⟩ l)) (r : Fin 128) (l : Fin 2048) :
    (k0_pay28 ws W : Vec Ideal S128x2048 .bf16) (ix2 r l) = waG w ws (ix2 ⟨2688 + r.val, by omega⟩ l) := by
  refine Eq.trans ?_ (waG_at w ws r 21 (by omega) l).symm

  refine Eq.trans (b := W (ix2 r l) * ws (ix2 ⟨21, by omega⟩ l)) ?_ (by rw [hW])

  pointwise [k0_pay28]

/-- What the body stores as the dequantised weight of this group's rows. -/
theorem wa_20 (S : Vec Ideal S28x16 .f32) (ws : FVec Ideal S28x2048 .bf16) (hS : ws = k0_pay2 S) (w : Vec Ideal S3584x2048 .fp8e4m3) (W : Vec Ideal S128x2048 .fp8e4m3)
    (hW : ∀ r l, W (ix2 r l) = w (ix2 ⟨2560 + r.val, by omega⟩ l)) (r : Fin 128) (l : Fin 2048) :
    (k0_pay27 ws W : Vec Ideal S128x2048 .bf16) (ix2 r l) = waG w ws (ix2 ⟨2560 + r.val, by omega⟩ l) := by
  refine Eq.trans ?_ (waG_at w ws r 20 (by omega) l).symm

  refine Eq.trans (b := W (ix2 r l) * ws (ix2 ⟨20, by omega⟩ l)) ?_ (by rw [hW])

  pointwise [k0_pay27]

/-- What the body stores as the dequantised weight of this group's rows. -/
theorem wa_19 (S : Vec Ideal S28x16 .f32) (ws : FVec Ideal S28x2048 .bf16) (hS : ws = k0_pay2 S) (w : Vec Ideal S3584x2048 .fp8e4m3) (W : Vec Ideal S128x2048 .fp8e4m3)
    (hW : ∀ r l, W (ix2 r l) = w (ix2 ⟨2432 + r.val, by omega⟩ l)) (r : Fin 128) (l : Fin 2048) :
    (k0_pay26 (k0_pay25 ws W) : Vec Ideal S128x2048 .bf16) (ix2 r l) = waG w ws (ix2 ⟨2432 + r.val, by omega⟩ l) := by
  refine Eq.trans ?_ (waG_at w ws r 19 (by omega) l).symm

  refine Eq.trans (b := W (ix2 r l) * ws (ix2 ⟨19, by omega⟩ l)) ?_ (by rw [hW])

  pointwise [k0_pay25, k0_pay26]

/-- What the body stores as the dequantised weight of this group's rows. -/
theorem wa_18 (S : Vec Ideal S28x16 .f32) (ws : FVec Ideal S28x2048 .bf16) (hS : ws = k0_pay2 S) (w : Vec Ideal S3584x2048 .fp8e4m3) (W : Vec Ideal S128x2048 .fp8e4m3)
    (hW : ∀ r l, W (ix2 r l) = w (ix2 ⟨2304 + r.val, by omega⟩ l)) (r : Fin 128) (l : Fin 2048) :
    (k0_pay24 ws W : Vec Ideal S128x2048 .bf16) (ix2 r l) = waG w ws (ix2 ⟨2304 + r.val, by omega⟩ l) := by
  refine Eq.trans ?_ (waG_at w ws r 18 (by omega) l).symm

  refine Eq.trans (b := W (ix2 r l) * ws (ix2 ⟨18, by omega⟩ l)) ?_ (by rw [hW])

  pointwise [k0_pay24]

/-- What the body stores as the dequantised weight of this group's rows. -/
theorem wa_17 (S : Vec Ideal S28x16 .f32) (ws : FVec Ideal S28x2048 .bf16) (hS : ws = k0_pay2 S) (w : Vec Ideal S3584x2048 .fp8e4m3) (W : Vec Ideal S128x2048 .fp8e4m3)
    (hW : ∀ r l, W (ix2 r l) = w (ix2 ⟨2176 + r.val, by omega⟩ l)) (r : Fin 128) (l : Fin 2048) :
    (k0_pay23 ws W : Vec Ideal S128x2048 .bf16) (ix2 r l) = waG w ws (ix2 ⟨2176 + r.val, by omega⟩ l) := by
  refine Eq.trans ?_ (waG_at w ws r 17 (by omega) l).symm

  refine Eq.trans (b := W (ix2 r l) * ws (ix2 ⟨17, by omega⟩ l)) ?_ (by rw [hW])

  pointwise [k0_pay23]

/-- What the body stores as the dequantised weight of this group's rows. -/
theorem wa_16 (S : Vec Ideal S28x16 .f32) (ws : FVec Ideal S28x2048 .bf16) (hS : ws = k0_pay2 S) (w : Vec Ideal S3584x2048 .fp8e4m3) (W : Vec Ideal S128x2048 .fp8e4m3)
    (hW : ∀ r l, W (ix2 r l) = w (ix2 ⟨2048 + r.val, by omega⟩ l)) (r : Fin 128) (l : Fin 2048) :
    (k0_pay22 ws W : Vec Ideal S128x2048 .bf16) (ix2 r l) = waG w ws (ix2 ⟨2048 + r.val, by omega⟩ l) := by
  refine Eq.trans ?_ (waG_at w ws r 16 (by omega) l).symm

  refine Eq.trans (b := W (ix2 r l) * ws (ix2 ⟨16, by omega⟩ l)) ?_ (by rw [hW])

  pointwise [k0_pay22]

/-- What the body stores as the dequantised weight of this group's rows. -/
theorem wa_15 (S : Vec Ideal S28x16 .f32) (ws : FVec Ideal S28x2048 .bf16) (hS : ws = k0_pay2 S) (w : Vec Ideal S3584x2048 .fp8e4m3) (W : Vec Ideal S128x2048 .fp8e4m3)
    (hW : ∀ r l, W (ix2 r l) = w (ix2 ⟨1920 + r.val, by omega⟩ l)) (r : Fin 128) (l : Fin 2048) :
    (k0_pay21 ws W : Vec Ideal S128x2048 .bf16) (ix2 r l) = waG w ws (ix2 ⟨1920 + r.val, by omega⟩ l) := by
  refine Eq.trans ?_ (waG_at w ws r 15 (by omega) l).symm

  refine Eq.trans (b := W (ix2 r l) * ws (ix2 ⟨15, by omega⟩ l)) ?_ (by rw [hW])

  pointwise [k0_pay21]

/-- What the body stores as the dequantised weight of this group's rows. -/
theorem wa_14 (S : Vec Ideal S28x16 .f32) (ws : FVec Ideal S28x2048 .bf16) (hS : ws = k0_pay2 S) (w : Vec Ideal S3584x2048 .fp8e4m3) (W : Vec Ideal S128x2048 .fp8e4m3)
    (hW : ∀ r l, W (ix2 r l) = w (ix2 ⟨1792 + r.val, by omega⟩ l)) (r : Fin 128) (l : Fin 2048) :
    (k0_pay20 ws W : Vec Ideal S128x2048 .bf16) (ix2 r l) = waG w ws (ix2 ⟨1792 + r.val, by omega⟩ l) := by
  refine Eq.trans ?_ (waG_at w ws r 14 (by omega) l).symm

  refine Eq.trans (b := W (ix2 r l) * ws (ix2 ⟨14, by omega⟩ l)) ?_ (by rw [hW])

  pointwise [k0_pay20]

/-- What the body stores as the dequantised weight of this group's rows. -/
theorem wa_13 (S : Vec Ideal S28x16 .f32) (ws : FVec Ideal S28x2048 .bf16) (hS : ws = k0_pay2 S) (w : Vec Ideal S3584x2048 .fp8e4m3) (W : Vec Ideal S128x2048 .fp8e4m3)
    (hW : ∀ r l, W (ix2 r l) = w (ix2 ⟨1664 + r.val, by omega⟩ l)) (r : Fin 128) (l : Fin 2048) :
    (k0_pay19 ws W : Vec Ideal S128x2048 .bf16) (ix2 r l) = waG w ws (ix2 ⟨1664 + r.val, by omega⟩ l) := by
  refine Eq.trans ?_ (waG_at w ws r 13 (by omega) l).symm

  refine Eq.trans (b := W (ix2 r l) * ws (ix2 ⟨13, by omega⟩ l)) ?_ (by rw [hW])

  pointwise [k0_pay19]

/-- What the body stores as the dequantised weight of this group's rows. -/
theorem wa_12 (S : Vec Ideal S28x16 .f32) (ws : FVec Ideal S28x2048 .bf16) (hS : ws = k0_pay2 S) (w : Vec Ideal S3584x2048 .fp8e4m3) (W : Vec Ideal S128x2048 .fp8e4m3)
    (hW : ∀ r l, W (ix2 r l) = w (ix2 ⟨1536 + r.val, by omega⟩ l)) (r : Fin 128) (l : Fin 2048) :
    (k0_pay18 ws W : Vec Ideal S128x2048 .bf16) (ix2 r l) = waG w ws (ix2 ⟨1536 + r.val, by omega⟩ l) := by
  refine Eq.trans ?_ (waG_at w ws r 12 (by omega) l).symm

  refine Eq.trans (b := W (ix2 r l) * ws (ix2 ⟨12, by omega⟩ l)) ?_ (by rw [hW])

  pointwise [k0_pay18]

/-- What the body stores as the dequantised weight of this group's rows. -/
theorem wa_11 (S : Vec Ideal S28x16 .f32) (ws : FVec Ideal S28x2048 .bf16) (hS : ws = k0_pay2 S) (w : Vec Ideal S3584x2048 .fp8e4m3) (W : Vec Ideal S128x2048 .fp8e4m3)
    (hW : ∀ r l, W (ix2 r l) = w (ix2 ⟨1408 + r.val, by omega⟩ l)) (r : Fin 128) (l : Fin 2048) :
    (k0_pay17 ws W : Vec Ideal S128x2048 .bf16) (ix2 r l) = waG w ws (ix2 ⟨1408 + r.val, by omega⟩ l) := by
  refine Eq.trans ?_ (waG_at w ws r 11 (by omega) l).symm

  refine Eq.trans (b := W (ix2 r l) * ws (ix2 ⟨11, by omega⟩ l)) ?_ (by rw [hW])

  pointwise [k0_pay17]

/-- What the body stores as the dequantised weight of this group's rows. -/
theorem wa_10 (S : Vec Ideal S28x16 .f32) (ws : FVec Ideal S28x2048 .bf16) (hS : ws = k0_pay2 S) (w : Vec Ideal S3584x2048 .fp8e4m3) (W : Vec Ideal S128x2048 .fp8e4m3)
    (hW : ∀ r l, W (ix2 r l) = w (ix2 ⟨1280 + r.val, by omega⟩ l)) (r : Fin 128) (l : Fin 2048) :
    (k0_pay16 (k0_pay14 W) (k0_pay15 ws) : Vec Ideal S128x2048 .bf16) (ix2 r l) = waG w ws (ix2 ⟨1280 + r.val, by omega⟩ l) := by
  refine Eq.trans ?_ (waG_at w ws r 10 (by omega) l).symm

  refine Eq.trans (b := W (ix2 r l) * ws (ix2 ⟨10, by omega⟩ l)) ?_ (by rw [hW])

  pointwise [k0_pay14, k0_pay15, k0_pay16]

/-- What the body stores as the dequantised weight of this group's rows. -/
theorem wa_9 (S : Vec Ideal S28x16 .f32) (ws : FVec Ideal S28x2048 .bf16) (hS : ws = k0_pay2 S) (w : Vec Ideal S3584x2048 .fp8e4m3) (W : Vec Ideal S128x2048 .fp8e4m3)
    (hW : ∀ r l, W (ix2 r l) = w (ix2 ⟨1152 + r.val, by omega⟩ l)) (r : Fin 128) (l : Fin 2048) :
    (k0_pay13 ws W : Vec Ideal S128x2048 .bf16) (ix2 r l) = waG w ws (ix2 ⟨1152 + r.val, by omega⟩ l) := by
  refine Eq.trans ?_ (waG_at w ws r 9 (by omega) l).symm

  refine Eq.trans (b := W (ix2 r l) * ws (ix2 ⟨9, by omega⟩ l)) ?_ (by rw [hW])

  pointwise [k0_pay13]

/-- What the body stores as the dequantised weight of this group's rows. -/
theorem wa_8 (S : Vec Ideal S28x16 .f32) (ws : FVec Ideal S28x2048 .bf16) (hS : ws = k0_pay2 S) (w : Vec Ideal S3584x2048 .fp8e4m3) (W : Vec Ideal S128x2048 .fp8e4m3)
    (hW : ∀ r l, W (ix2 r l) = w (ix2 ⟨1024 + r.val, by omega⟩ l)) (r : Fin 128) (l : Fin 2048) :
    (k0_pay12 ws W : Vec Ideal S128x2048 .bf16) (ix2 r l) = waG w ws (ix2 ⟨1024 + r.val, by omega⟩ l) := by
  refine Eq.trans ?_ (waG_at w ws r 8 (by omega) l).symm

  refine Eq.trans (b := W (ix2 r l) * ws (ix2 ⟨8, by omega⟩ l)) ?_ (by rw [hW])

  pointwise [k0_pay12]

/-- What the body stores as the dequantised weight of this group's rows. -/
theorem wa_7 (S : Vec Ideal S28x16 .f32) (ws : FVec Ideal S28x2048 .bf16) (hS : ws = k0_pay2 S) (w : Vec Ideal S3584x2048 .fp8e4m3) (W : Vec Ideal S128x2048 .fp8e4m3)
    (hW : ∀ r l, W (ix2 r l) = w (ix2 ⟨896 + r.val, by omega⟩ l)) (r : Fin 128) (l : Fin 2048) :
    (k0_pay11 ws W : Vec Ideal S128x2048 .bf16) (ix2 r l) = waG w ws (ix2 ⟨896 + r.val, by omega⟩ l) := by
  refine Eq.trans ?_ (waG_at w ws r 7 (by omega) l).symm

  refine Eq.trans (b := W (ix2 r l) * ws (ix2 ⟨7, by omega⟩ l)) ?_ (by rw [hW])

  pointwise [k0_pay11]

/-- What the body stores as the dequantised weight of this group's rows. -/
theorem wa_6 (S : Vec Ideal S28x16 .f32) (ws : FVec Ideal S28x2048 .bf16) (hS : ws = k0_pay2 S) (w : Vec Ideal S3584x2048 .fp8e4m3) (W : Vec Ideal S128x2048 .fp8e4m3)
    (hW : ∀ r l, W (ix2 r l) = w (ix2 ⟨768 + r.val, by omega⟩ l)) (r : Fin 128) (l : Fin 2048) :
    (k0_pay10 ws W : Vec Ideal S128x2048 .bf16) (ix2 r l) = waG w ws (ix2 ⟨768 + r.val, by omega⟩ l) := by
  refine Eq.trans ?_ (waG_at w ws r 6 (by omega) l).symm

  refine Eq.trans (b := W (ix2 r l) * ws (ix2 ⟨6, by omega⟩ l)) ?_ (by rw [hW])

  pointwise [k0_pay10]

/-- What the body stores as the dequantised weight of this group's rows. -/
theorem wa_5 (S : Vec Ideal S28x16 .f32) (ws : FVec Ideal S28x2048 .bf16) (hS : ws = k0_pay2 S) (w : Vec Ideal S3584x2048 .fp8e4m3) (W : Vec Ideal S128x2048 .fp8e4m3)
    (hW : ∀ r l, W (ix2 r l) = w (ix2 ⟨640 + r.val, by omega⟩ l)) (r : Fin 128) (l : Fin 2048) :
    (k0_pay9 (k0_pay8 ws W) : Vec Ideal S128x2048 .bf16) (ix2 r l) = waG w ws (ix2 ⟨640 + r.val, by omega⟩ l) := by
  refine Eq.trans ?_ (waG_at w ws r 5 (by omega) l).symm

  refine Eq.trans (b := W (ix2 r l) * ws (ix2 ⟨5, by omega⟩ l)) ?_ (by rw [hW])

  pointwise [k0_pay8, k0_pay9]

/-- What the body stores as the dequantised weight of this group's rows. -/
theorem wa_4 (S : Vec Ideal S28x16 .f32) (ws : FVec Ideal S28x2048 .bf16) (hS : ws = k0_pay2 S) (w : Vec Ideal S3584x2048 .fp8e4m3) (W : Vec Ideal S128x2048 .fp8e4m3)
    (hW : ∀ r l, W (ix2 r l) = w (ix2 ⟨512 + r.val, by omega⟩ l)) (r : Fin 128) (l : Fin 2048) :
    (k0_pay7 ws W : Vec Ideal S128x2048 .bf16) (ix2 r l) = waG w ws (ix2 ⟨512 + r.val, by omega⟩ l) := by
  refine Eq.trans ?_ (waG_at w ws r 4 (by omega) l).symm

  refine Eq.trans (b := W (ix2 r l) * ws (ix2 ⟨4, by omega⟩ l)) ?_ (by rw [hW])

  pointwise [k0_pay7]

/-- What the body stores as the dequantised weight of this group's rows. -/
theorem wa_3 (S : Vec Ideal S28x16 .f32) (ws : FVec Ideal S28x2048 .bf16) (hS : ws = k0_pay2 S) (w : Vec Ideal S3584x2048 .fp8e4m3) (W : Vec Ideal S128x2048 .fp8e4m3)
    (hW : ∀ r l, W (ix2 r l) = w (ix2 ⟨384 + r.val, by omega⟩ l)) (r : Fin 128) (l : Fin 2048) :
    (k0_pay6 ws W : Vec Ideal S128x2048 .bf16) (ix2 r l) = waG w ws (ix2 ⟨384 + r.val, by omega⟩ l) := by
  refine Eq.trans ?_ (waG_at w ws r 3 (by omega) l).symm

  refine Eq.trans (b := W (ix2 r l) * ws (ix2 ⟨3, by omega⟩ l)) ?_ (by rw [hW])

  pointwise [k0_pay6]

/-- What the body stores as the dequantised weight of this group's rows. -/
theorem wa_2 (S : Vec Ideal S28x16 .f32) (ws : FVec Ideal S28x2048 .bf16) (hS : ws = k0_pay2 S) (w : Vec Ideal S3584x2048 .fp8e4m3) (W : Vec Ideal S128x2048 .fp8e4m3)
    (hW : ∀ r l, W (ix2 r l) = w (ix2 ⟨256 + r.val, by omega⟩ l)) (r : Fin 128) (l : Fin 2048) :
    (k0_pay5 ws W : Vec Ideal S128x2048 .bf16) (ix2 r l) = waG w ws (ix2 ⟨256 + r.val, by omega⟩ l) := by
  refine Eq.trans ?_ (waG_at w ws r 2 (by omega) l).symm

  refine Eq.trans (b := W (ix2 r l) * ws (ix2 ⟨2, by omega⟩ l)) ?_ (by rw [hW])

  pointwise [k0_pay5]

/-- What the body stores as the dequantised weight of this group's rows. -/
theorem wa_1 (S : Vec Ideal S28x16 .f32) (ws : FVec Ideal S28x2048 .bf16) (hS : ws = k0_pay2 S) (w : Vec Ideal S3584x2048 .fp8e4m3) (W : Vec Ideal S128x2048 .fp8e4m3)
    (hW : ∀ r l, W (ix2 r l) = w (ix2 ⟨128 + r.val, by omega⟩ l)) (r : Fin 128) (l : Fin 2048) :
    (k0_pay4 ws W : Vec Ideal S128x2048 .bf16) (ix2 r l) = waG w ws (ix2 ⟨128 + r.val, by omega⟩ l) := by
  refine Eq.trans ?_ (waG_at w ws r 1 (by omega) l).symm

  refine Eq.trans (b := W (ix2 r l) * ws (ix2 ⟨1, by omega⟩ l)) ?_ (by rw [hW])

  pointwise [k0_pay4]

/-- What the body stores as the dequantised weight of this group's rows. -/
theorem wa_0 (S : Vec Ideal S28x16 .f32) (ws : FVec Ideal S28x2048 .bf16) (hS : ws = k0_pay2 S) (w : Vec Ideal S3584x2048 .fp8e4m3) (W : Vec Ideal S128x2048 .fp8e4m3)
    (hW : ∀ r l, W (ix2 r l) = w (ix2 ⟨0 + r.val, by omega⟩ l)) (r : Fin 128) (l : Fin 2048) :
    (k0_pay3 S W : Vec Ideal S128x2048 .bf16) (ix2 r l) = waG w ws (ix2 ⟨0 + r.val, by omega⟩ l) := by
  refine Eq.trans ?_ (waG_at w ws r 0 (by omega) l).symm
  subst hS
  refine Eq.trans (b := W (ix2 r l) * (k0_pay2 S) (ix2 ⟨0, by omega⟩ l)) ?_ (by rw [hW])

  pointwise [k0_pay3]

end Cert.KernelIdeal.Gen
-- ==== Proof.KRun.lean ====
module
public import proofs.«01_k».proof.Proof.Gen.KernelIdeal.Value
public import Idealize.ShloMosaic.Lib.Pipeline.ValueKit
public import proofs.«01_k».proof.Proof.KPieces
@[expose] public section
set_option maxRecDepth 16384
noncomputable section
namespace Cert.KernelIdeal.Gen
open Idealize.ShloMosaic Cert.KernelIdeal Cert.Qkv Idealize.ShloMosaic.Tactic

/-! What one grid point's body leaves in the code, scale and scratch buffers, in its two cases: the first grid point
    (which also fills the weight scratch) and the others. -/

/-- The normalised rows, by their name. -/
theorem nameA_0 (c : Dev nD) (arg2 : Memref sig .tc .vmem S256x3584 .bf16) (harg2 : arg2.IsWhole) (arg3 : Memref sig .tc .vmem S1x3584 .bf16) (harg3 : arg3.IsWhole)
    (x1 : Vec Ideal S256x3584 .bf16) (x2 : Vec Ideal S1x3584 .bf16) :
    kernelRun0_A.sl.r_7 c arg2 harg2 arg3 harg3 x1 x2 = k0_pay36 x1 x2 := by
  frame_out

/-- The magnitudes of the groups, by their name. -/
theorem nameA_11 (c : Dev nD) (arg2 : Memref sig .tc .vmem S256x3584 .bf16) (harg2 : arg2.IsWhole) (arg3 : Memref sig .tc .vmem S1x3584 .bf16) (harg3 : arg3.IsWhole)
    (x1 : Vec Ideal S256x3584 .bf16) (x2 : Vec Ideal S1x3584 .bf16) :
    kernelRun0_A.sl.r_18 c arg2 harg2 arg3 harg3 x1 x2 = kamax x1 x2 := by
  frame_out
  rfl

/-- The exponent fields, by their name. -/
theorem nameA_15 (c : Dev nD) (arg2 : Memref sig .tc .vmem S256x3584 .bf16) (harg2 : arg2.IsWhole) (arg3 : Memref sig .tc .vmem S1x3584 .bf16) (harg3 : arg3.IsWhole)
    (x1 : Vec Ideal S256x3584 .bf16) (x2 : Vec Ideal S1x3584 .bf16) :
    kernelRun0_A.sl.r_22 c arg2 harg2 arg3 harg3 x1 x2 = kfield x1 x2 := by
  frame_out
  rfl

/-- The scales, by their name. -/
theorem nameA_16 (c : Dev nD) (arg2 : Memref sig .tc .vmem S256x3584 .bf16) (harg2 : arg2.IsWhole) (arg3 : Memref sig .tc .vmem S1x3584 .bf16) (harg3 : arg3.IsWhole)
    (x1 : Vec Ideal S256x3584 .bf16) (x2 : Vec Ideal S1x3584 .bf16) :
    kernelRun0_A.sl.r_23 c arg2 harg2 arg3 harg3 x1 x2 = kscale x1 x2 := by
  unfold kernelRun0_A.sl.r_23
  rw [nameA_11, nameA_15]
  rfl

/-- The inverse scales, by their name. -/
theorem nameA_17 (c : Dev nD) (arg2 : Memref sig .tc .vmem S256x3584 .bf16) (harg2 : arg2.IsWhole) (arg3 : Memref sig .tc .vmem S1x3584 .bf16) (harg3 : arg3.IsWhole)
    (x1 : Vec Ideal S256x3584 .bf16) (x2 : Vec Ideal S1x3584 .bf16) :
    kernelRun0_A.sl.r_24 c arg2 harg2 arg3 harg3 x1 x2 = kinv x1 x2 := by
  unfold kernelRun0_A.sl.r_24
  rw [nameA_11, nameA_15]
  rfl

/-- One step of the body, in terms of the rows, the scales and the inverse scales. -/
theorem nameA_18 (c : Dev nD) (arg2 : Memref sig .tc .vmem S256x3584 .bf16) (harg2 : arg2.IsWhole) (arg3 : Memref sig .tc .vmem S1x3584 .bf16) (harg3 : arg3.IsWhole)
    (x1 : Vec Ideal S256x3584 .bf16) (x2 : Vec Ideal S1x3584 .bf16) :
    kernelRun0_A.sl.r_25 c arg2 harg2 arg3 harg3 x1 x2 = k0_pay58 (k0_pay36 x1 x2) (kamax x1 x2) (kfield x1 x2) := by
  unfold kernelRun0_A.sl.r_25
  simp only [nameA_0, nameA_11, nameA_15, nameA_16, nameA_17]

/-- One step of the body, in terms of the rows, the scales and the inverse scales. -/
theorem nameA_19 (c : Dev nD) (arg2 : Memref sig .tc .vmem S256x3584 .bf16) (harg2 : arg2.IsWhole) (arg3 : Memref sig .tc .vmem S1x3584 .bf16) (harg3 : arg3.IsWhole)
    (x1 : Vec Ideal S256x3584 .bf16) (x2 : Vec Ideal S1x3584 .bf16) :
    kernelRun0_A.sl.r_26 c arg2 harg2 arg3 harg3 x1 x2 = k0_pay64 (k0_pay36 x1 x2) (kinv x1 x2) := by
  unfold kernelRun0_A.sl.r_26
  simp only [nameA_0, nameA_11, nameA_15, nameA_16, nameA_17]

/-- One step of the body, in terms of the rows, the scales and the inverse scales. -/
theorem nameA_20 (c : Dev nD) (arg2 : Memref sig .tc .vmem S256x3584 .bf16) (harg2 : arg2.IsWhole) (arg3 : Memref sig .tc .vmem S1x3584 .bf16) (harg3 : arg3.IsWhole)
    (x1 : Vec Ideal S256x3584 .bf16) (x2 : Vec Ideal S1x3584 .bf16) :
    kernelRun0_A.sl.r_27 c arg2 harg2 arg3 harg3 x1 x2 = k0_pay69 (k0_pay36 x1 x2) (kscale x1 x2) (kinv x1 x2) := by
  unfold kernelRun0_A.sl.r_27
  simp only [nameA_0, nameA_11, nameA_15, nameA_16, nameA_17]

/-- One step of the body, in terms of the rows, the scales and the inverse scales. -/
theorem nameA_21 (c : Dev nD) (arg2 : Memref sig .tc .vmem S256x3584 .bf16) (harg2 : arg2.IsWhole) (arg3 : Memref sig .tc .vmem S1x3584 .bf16) (harg3 : arg3.IsWhole)
    (x1 : Vec Ideal S256x3584 .bf16) (x2 : Vec Ideal S1x3584 .bf16) :
    kernelRun0_A.sl.r_28 c arg2 harg2 arg3 harg3 x1 x2 = k0_pay75 (k0_pay36 x1 x2) (kinv x1 x2) := by
  unfold kernelRun0_A.sl.r_28
  simp only [nameA_0, nameA_11, nameA_15, nameA_16, nameA_17]

/-- One step of the body, in terms of the rows, the scales and the inverse scales. -/
theorem nameA_22 (c : Dev nD) (arg2 : Memref sig .tc .vmem S256x3584 .bf16) (harg2 : arg2.IsWhole) (arg3 : Memref sig .tc .vmem S1x3584 .bf16) (harg3 : arg3.IsWhole)
    (x1 : Vec Ideal S256x3584 .bf16) (x2 : Vec Ideal S1x3584 .bf16) :
    kernelRun0_A.sl.r_29 c arg2 harg2 arg3 harg3 x1 x2 = k0_pay80 (k0_pay36 x1 x2) (kinv x1 x2) := by
  unfold kernelRun0_A.sl.r_29
  simp only [nameA_0, nameA_11, nameA_15, nameA_16, nameA_17]

/-- One step of the body, in terms of the rows, the scales and the inverse scales. -/
theorem nameA_23 (c : Dev nD) (arg2 : Memref sig .tc .vmem S256x3584 .bf16) (harg2 : arg2.IsWhole) (arg3 : Memref sig .tc .vmem S1x3584 .bf16) (harg3 : arg3.IsWhole)
    (x1 : Vec Ideal S256x3584 .bf16) (x2 : Vec Ideal S1x3584 .bf16) :
    kernelRun0_A.sl.r_30 c arg2 harg2 arg3 harg3 x1 x2 = k0_pay85 (k0_pay36 x1 x2) (kscale x1 x2) (kinv x1 x2) := by
  unfold kernelRun0_A.sl.r_30
  simp only [nameA_0, nameA_11, nameA_15, nameA_16, nameA_17]

/-- One step of the body, in terms of the rows, the scales and the inverse scales. -/
theorem nameA_24 (c : Dev nD) (arg2 : Memref sig .tc .vmem S256x3584 .bf16) (harg2 : arg2.IsWhole) (arg3 : Memref sig .tc .vmem S1x3584 .bf16) (harg3 : arg3.IsWhole)
    (x1 : Vec Ideal S256x3584 .bf16) (x2 : Vec Ideal S1x3584 .bf16) :
    kernelRun0_A.sl.r_31 c arg2 harg2 arg3 harg3 x1 x2 = k0_pay91 (k0_pay36 x1 x2) := by
  unfold kernelRun0_A.sl.r_31
  simp only [nameA_0, nameA_11, nameA_15, nameA_16, nameA_17]

/-- One step of the body, in terms of the rows, the scales and the inverse scales. -/
theorem nameA_25 (c : Dev nD) (arg2 : Memref sig .tc .vmem S256x3584 .bf16) (harg2 : arg2.IsWhole) (arg3 : Memref sig .tc .vmem S1x3584 .bf16) (harg3 : arg3.IsWhole)
    (x1 : Vec Ideal S256x3584 .bf16) (x2 : Vec Ideal S1x3584 .bf16) :
    kernelRun0_A.sl.r_32 c arg2 harg2 arg3 harg3 x1 x2 = k0_pay92 (kinv x1 x2) := by
  unfold kernelRun0_A.sl.r_32
  simp only [nameA_0, nameA_11, nameA_15, nameA_16, nameA_17]

/-- One step of the body, in terms of the rows, the scales and the inverse scales. -/
theorem nameA_26 (c : Dev nD) (arg2 : Memref sig .tc .vmem S256x3584 .bf16) (harg2 : arg2.IsWhole) (arg3 : Memref sig .tc .vmem S1x3584 .bf16) (harg3 : arg3.IsWhole)
    (x1 : Vec Ideal S256x3584 .bf16) (x2 : Vec Ideal S1x3584 .bf16) :
    kernelRun0_A.sl.r_33 c arg2 harg2 arg3 harg3 x1 x2 = k0_pay97 (k0_pay36 x1 x2) (kinv x1 x2) := by
  unfold kernelRun0_A.sl.r_33
  simp only [nameA_0, nameA_11, nameA_15, nameA_16, nameA_17]

/-- One step of the body, in terms of the rows, the scales and the inverse scales. -/
theorem nameA_27 (c : Dev nD) (arg2 : Memref sig .tc .vmem S256x3584 .bf16) (harg2 : arg2.IsWhole) (arg3 : Memref sig .tc .vmem S1x3584 .bf16) (harg3 : arg3.IsWhole)
    (x1 : Vec Ideal S256x3584 .bf16) (x2 : Vec Ideal S1x3584 .bf16) :
    kernelRun0_A.sl.r_34 c arg2 harg2 arg3 harg3 x1 x2 = k0_pay102 (k0_pay36 x1 x2) (kinv x1 x2) := by
  unfold kernelRun0_A.sl.r_34
  simp only [nameA_0, nameA_11, nameA_15, nameA_16, nameA_17]

/-- One step of the body, in terms of the rows, the scales and the inverse scales. -/
theorem nameA_28 (c : Dev nD) (arg2 : Memref sig .tc .vmem S256x3584 .bf16) (harg2 : arg2.IsWhole) (arg3 : Memref sig .tc .vmem S1x3584 .bf16) (harg3 : arg3.IsWhole)
    (x1 : Vec Ideal S256x3584 .bf16) (x2 : Vec Ideal S1x3584 .bf16) :
    kernelRun0_A.sl.r_35 c arg2 harg2 arg3 harg3 x1 x2 = k0_pay103 (kscale x1 x2) := by
  unfold kernelRun0_A.sl.r_35
  simp only [nameA_0, nameA_11, nameA_15, nameA_16, nameA_17]

/-- One step of the body, in terms of the rows, the scales and the inverse scales. -/
theorem nameA_29 (c : Dev nD) (arg2 : Memref sig .tc .vmem S256x3584 .bf16) (harg2 : arg2.IsWhole) (arg3 : Memref sig .tc .vmem S1x3584 .bf16) (harg3 : arg3.IsWhole)
    (x1 : Vec Ideal S256x3584 .bf16) (x2 : Vec Ideal S1x3584 .bf16) :
    kernelRun0_A.sl.r_36 c arg2 harg2 arg3 harg3 x1 x2 = k0_pay109 (k0_pay36 x1 x2) := by
  unfold kernelRun0_A.sl.r_36
  simp only [nameA_0, nameA_11, nameA_15, nameA_16, nameA_17]

/-- One step of the body, in terms of the rows, the scales and the inverse scales. -/
theorem nameA_30 (c : Dev nD) (arg2 : Memref sig .tc .vmem S256x3584 .bf16) (harg2 : arg2.IsWhole) (arg3 : Memref sig .tc .vmem S1x3584 .bf16) (harg3 : arg3.IsWhole)
    (x1 : Vec Ideal S256x3584 .bf16) (x2 : Vec Ideal S1x3584 .bf16) :
    kernelRun0_A.sl.r_37 c arg2 harg2 arg3 harg3 x1 x2 = k0_pay114 (k0_pay36 x1 x2) (kinv x1 x2) := by
  unfold kernelRun0_A.sl.r_37
  simp only [nameA_0, nameA_11, nameA_15, nameA_16, nameA_17]

/-- One step of the body, in terms of the rows, the scales and the inverse scales. -/
theorem nameA_31 (c : Dev nD) (arg2 : Memref sig .tc .vmem S256x3584 .bf16) (harg2 : arg2.IsWhole) (arg3 : Memref sig .tc .vmem S1x3584 .bf16) (harg3 : arg3.IsWhole)
    (x1 : Vec Ideal S256x3584 .bf16) (x2 : Vec Ideal S1x3584 .bf16) :
    kernelRun0_A.sl.r_38 c arg2 harg2 arg3 harg3 x1 x2 = k0_pay121 (k0_pay36 x1 x2) (kinv x1 x2) := by
  unfold kernelRun0_A.sl.r_38
  simp only [nameA_0, nameA_11, nameA_15, nameA_16, nameA_17]

/-- One step of the body, in terms of the rows, the scales and the inverse scales. -/
theorem nameA_32 (c : Dev nD) (arg2 : Memref sig .tc .vmem S256x3584 .bf16) (harg2 : arg2.IsWhole) (arg3 : Memref sig .tc .vmem S1x3584 .bf16) (harg3 : arg3.IsWhole)
    (x1 : Vec Ideal S256x3584 .bf16) (x2 : Vec Ideal S1x3584 .bf16) :
    kernelRun0_A.sl.r_39 c arg2 harg2 arg3 harg3 x1 x2 = k0_pay122 (kscale x1 x2) := by
  unfold kernelRun0_A.sl.r_39
  simp only [nameA_0, nameA_11, nameA_15, nameA_16, nameA_17]

/-- One step of the body, in terms of the rows, the scales and the inverse scales. -/
theorem nameA_33 (c : Dev nD) (arg2 : Memref sig .tc .vmem S256x3584 .bf16) (harg2 : arg2.IsWhole) (arg3 : Memref sig .tc .vmem S1x3584 .bf16) (harg3 : arg3.IsWhole)
    (x1 : Vec Ideal S256x3584 .bf16) (x2 : Vec Ideal S1x3584 .bf16) :
    kernelRun0_A.sl.r_40 c arg2 harg2 arg3 harg3 x1 x2 = k0_pay127 (k0_pay36 x1 x2) (kscale x1 x2) (kinv x1 x2) := by
  unfold kernelRun0_A.sl.r_40
  simp only [nameA_0, nameA_11, nameA_15, nameA_16, nameA_17]

/-- The codes the first grid point leaves. -/
theorem codes_runA (c : Dev nD) (i : grid0.Coords) (arg1 : Memref sig .tc .smem S4 .i32) (harg1 : arg1.IsWhole) (arg2 : Memref sig .tc .vmem S256x3584 .bf16) (harg2 : arg2.IsWhole) (arg3 : Memref sig .tc .vmem S1x3584 .bf16) (harg3 : arg3.IsWhole) (arg4 : Memref sig .tc .vmem S3584x2048 .fp8e4m3) (harg4 : arg4.IsWhole) (arg5 : Memref sig .tc .vmem S28x16 .f32) (harg5 : arg5.IsWhole) (arg6 : Memref sig .tc .vmem S1x256 .bf16) (harg6 : arg6.IsWhole) (arg7 : Memref sig .tc .vmem S1x256 .bf16) (harg7 : arg7.IsWhole) (arg8 : Memref sig .tc .vmem S1x128 .f32) (harg8 : arg8.IsWhole) (arg9 : Memref sig .tc .vmem S256x1024 .bf16) (harg9 : arg9.IsWhole) (arg10 : Memref sig .tc .vmem S256x512 .bf16) (harg10 : arg10.IsWhole) (arg11 : Memref sig .tc .vmem S256x512 .bf16) (harg11 : arg11.IsWhole) (arg12 : Memref sig .tc .vmem S256x3584 .fp8e4m3) (harg12 : arg12.IsWhole) (arg13 : Memref sig .tc .vmem S256x28 .f32) (harg13 : arg13.IsWhole) (arg14 : Memref sig .tc .vmem S3584x2048 .bf16) (harg14 : arg14.IsWhole) (arg15 : Memref sig .tc .vmem S256x3584 .bf16) (harg15 : arg15.IsWhole) (hc0 : cond0_0 i)
    (x0 : Vec Ideal S4 .i32) (x1 : Vec Ideal S256x3584 .bf16) (x2 : Vec Ideal S1x3584 .bf16) (x3 : Vec Ideal S3584x2048 .fp8e4m3) (x4 : Vec Ideal S28x16 .f32) (x5 : Vec Ideal S1x256 .bf16) (x6 : Vec Ideal S1x256 .bf16) (x7 : Vec Ideal S1x128 .f32) :
    View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.1 = codesG (k0_pay36 x1 x2) (kinv x1 x2) := by
  funext y
  refine View.canon_apply_of_pieces _ _ ?_ y (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 y)
  unfold kernelRun0_A
  dsimp only
  simp only [nameA_0, nameA_11, nameA_15, nameA_16, nameA_17, nameA_18, nameA_19, nameA_20, nameA_21, nameA_22, nameA_23, nameA_24, nameA_25, nameA_26, nameA_27, nameA_28, nameA_29, nameA_30, nameA_31, nameA_32, nameA_33, kernelRun0_A.sl.cst_99, kernelRun0_A.sl.cst_64]
  refine List.forall_mem_cons.2 ⟨piece_lanes 3456 (by decide) inb_S256x3584_S256x128_0_3456 _ _ (codes_27 _ (kamax x1 x2) (kfield x1 x2) (kscale x1 x2) (kinv x1 x2)), ?_⟩
  refine List.forall_mem_cons.2 ⟨piece_lanes 3328 (by decide) inb_S256x3584_S256x128_0_3328 _ _ (codes_26 _ (kamax x1 x2) (kfield x1 x2) (kscale x1 x2) (kinv x1 x2)), ?_⟩
  refine List.forall_mem_cons.2 ⟨piece_lanes 3200 (by decide) inb_S256x3584_S256x128_0_3200 _ _ (codes_25 _ (kamax x1 x2) (kfield x1 x2) (kscale x1 x2) (kinv x1 x2)), ?_⟩
  refine List.forall_mem_cons.2 ⟨piece_lanes 3072 (by decide) inb_S256x3584_S256x128_0_3072 _ _ (codes_24 _ (kamax x1 x2) (kfield x1 x2) (kscale x1 x2) (kinv x1 x2)), ?_⟩
  refine List.forall_mem_cons.2 ⟨piece_lanes 2944 (by decide) inb_S256x3584_S256x128_0_2944 _ _ (codes_23 _ (kamax x1 x2) (kfield x1 x2) (kscale x1 x2) (kinv x1 x2)), ?_⟩
  refine List.forall_mem_cons.2 ⟨piece_lanes 2816 (by decide) inb_S256x3584_S256x128_0_2816 _ _ (codes_22 _ (kamax x1 x2) (kfield x1 x2) (kscale x1 x2) (kinv x1 x2)), ?_⟩
  refine List.forall_mem_cons.2 ⟨piece_lanes 2688 (by decide) inb_S256x3584_S256x128_0_2688 _ _ (codes_21 _ (kamax x1 x2) (kfield x1 x2) (kscale x1 x2) (kinv x1 x2)), ?_⟩
  refine List.forall_mem_cons.2 ⟨piece_lanes 2560 (by decide) inb_S256x3584_S256x128_0_2560 _ _ (codes_20 _ (kamax x1 x2) (kfield x1 x2) (kscale x1 x2) (kinv x1 x2)), ?_⟩
  refine List.forall_mem_cons.2 ⟨piece_lanes 2432 (by decide) inb_S256x3584_S256x128_0_2432 _ _ (codes_19 _ (kamax x1 x2) (kfield x1 x2) (kscale x1 x2) (kinv x1 x2)), ?_⟩
  refine List.forall_mem_cons.2 ⟨piece_lanes 2304 (by decide) inb_S256x3584_S256x128_0_2304 _ _ (codes_18 _ (kamax x1 x2) (kfield x1 x2) (kscale x1 x2) (kinv x1 x2)), ?_⟩
  refine List.forall_mem_cons.2 ⟨piece_lanes 2176 (by decide) inb_S256x3584_S256x128_0_2176 _ _ (codes_17 _ (kamax x1 x2) (kfield x1 x2) (kscale x1 x2) (kinv x1 x2)), ?_⟩
  refine List.forall_mem_cons.2 ⟨piece_lanes 2048 (by decide) inb_S256x3584_S256x128_0_2048 _ _ (codes_16 _ (kamax x1 x2) (kfield x1 x2) (kscale x1 x2) (kinv x1 x2)), ?_⟩
  refine List.forall_mem_cons.2 ⟨piece_lanes 1920 (by decide) inb_S256x3584_S256x128_0_1920 _ _ (codes_15 _ (kamax x1 x2) (kfield x1 x2) (kscale x1 x2) (kinv x1 x2)), ?_⟩
  refine List.forall_mem_cons.2 ⟨piece_lanes 1792 (by decide) inb_S256x3584_S256x128_0_1792 _ _ (codes_14 _ (kamax x1 x2) (kfield x1 x2) (kscale x1 x2) (kinv x1 x2)), ?_⟩
  refine List.forall_mem_cons.2 ⟨piece_lanes 1664 (by decide) inb_S256x3584_S256x128_0_1664 _ _ (codes_13 _ (kamax x1 x2) (kfield x1 x2) (kscale x1 x2) (kinv x1 x2)), ?_⟩
  refine List.forall_mem_cons.2 ⟨piece_lanes 1536 (by decide) inb_S256x3584_S256x128_0_1536 _ _ (codes_12 _ (kamax x1 x2) (kfield x1 x2) (kscale x1 x2) (kinv x1 x2)), ?_⟩
  refine List.forall_mem_cons.2 ⟨piece_lanes 1408 (by decide) inb_S256x3584_S256x128_0_1408 _ _ (codes_11 _ (kamax x1 x2) (kfield x1 x2) (kscale x1 x2) (kinv x1 x2)), ?_⟩
  refine List.forall_mem_cons.2 ⟨piece_lanes 1280 (by decide) inb_S256x3584_S256x128_0_1280 _ _ (codes_10 _ (kamax x1 x2) (kfield x1 x2) (kscale x1 x2) (kinv x1 x2)), ?_⟩
  refine List.forall_mem_cons.2 ⟨piece_lanes 1152 (by decide) inb_S256x3584_S256x128_0_1152 _ _ (codes_9 _ (kamax x1 x2) (kfield x1 x2) (kscale x1 x2) (kinv x1 x2)), ?_⟩
  refine List.forall_mem_cons.2 ⟨piece_lanes 1024 (by decide) inb_S256x3584_S256x128_0_1024 _ _ (codes_8 _ (kamax x1 x2) (kfield x1 x2) (kscale x1 x2) (kinv x1 x2)), ?_⟩
  refine List.forall_mem_cons.2 ⟨piece_lanes 896 (by decide) inb_S256x3584_S256x128_0_896 _ _ (codes_7 _ (kamax x1 x2) (kfield x1 x2) (kscale x1 x2) (kinv x1 x2)), ?_⟩
  refine List.forall_mem_cons.2 ⟨piece_lanes 768 (by decide) inb_S256x3584_S256x128_0_768 _ _ (codes_6 _ (kamax x1 x2) (kfield x1 x2) (kscale x1 x2) (kinv x1 x2)), ?_⟩
  refine List.forall_mem_cons.2 ⟨piece_lanes 640 (by decide) inb_S256x3584_S256x128_0_640 _ _ (codes_5 _ (kamax x1 x2) (kfield x1 x2) (kscale x1 x2) (kinv x1 x2)), ?_⟩
  refine List.forall_mem_cons.2 ⟨piece_lanes 512 (by decide) inb_S256x3584_S256x128_0_512 _ _ (codes_4 _ (kamax x1 x2) (kfield x1 x2) (kscale x1 x2) (kinv x1 x2)), ?_⟩
  refine List.forall_mem_cons.2 ⟨piece_lanes 384 (by decide) inb_S256x3584_S256x128_0_384 _ _ (codes_3 _ (kamax x1 x2) (kfield x1 x2) (kscale x1 x2) (kinv x1 x2)), ?_⟩
  refine List.forall_mem_cons.2 ⟨piece_lanes 256 (by decide) inb_S256x3584_S256x128_0_256 _ _ (codes_2 _ (kamax x1 x2) (kfield x1 x2) (kscale x1 x2) (kinv x1 x2)), ?_⟩
  refine List.forall_mem_cons.2 ⟨piece_lanes 128 (by decide) inb_S256x3584_S256x128_0_128 _ _ (codes_1 _ (kamax x1 x2) (kfield x1 x2) (kscale x1 x2) (kinv x1 x2)), ?_⟩
  refine List.forall_mem_cons.2 ⟨piece_lanes 0 (by decide) inb_S256x3584_S256x128_0_0 _ _ (codes_0 _ (kamax x1 x2) (kfield x1 x2) (kscale x1 x2) (kinv x1 x2)), ?_⟩
  exact fun p hp => absurd hp List.not_mem_nil

/-- The dequantised activations the first grid point leaves. -/
theorem xa_runA (c : Dev nD) (arg2 : Memref sig .tc .vmem S256x3584 .bf16) (harg2 : arg2.IsWhole) (arg3 : Memref sig .tc .vmem S1x3584 .bf16) (harg3 : arg3.IsWhole)
    (x1 : Vec Ideal S256x3584 .bf16) (x2 : Vec Ideal S1x3584 .bf16) :
    View.canon (kernelRun0_A.sl.HS1_28 c arg2 harg2 arg3 harg3 x1 x2) = xaG (k0_pay36 x1 x2) (kscale x1 x2) (kinv x1 x2) := by
  funext y
  refine View.canon_apply_of_pieces _ _ ?_ y (View.cover_of_tiledL (kernelRun0_A.sl.HS1_28 c arg2 harg2 arg3 harg3 x1 x2) S256x128.size (by sl_kernel_rfl) y)
  unfold kernelRun0_A.sl.HS1_28
  simp only [nameA_0, nameA_11, nameA_15, nameA_16, nameA_17, nameA_18, nameA_19, nameA_20, nameA_21, nameA_22, nameA_23, nameA_24, nameA_25, nameA_26, nameA_27, nameA_28, nameA_29, nameA_30, nameA_31, nameA_32, nameA_33, kernelRun0_A.sl.cst_99, kernelRun0_A.sl.cst_64]
  refine List.forall_mem_cons.2 ⟨piece_lanes 3456 (by decide) inb_S256x3584_S256x128_0_3456 _ _ (xa_27 _ (kamax x1 x2) (kfield x1 x2) (kscale x1 x2) (kinv x1 x2)), ?_⟩
  refine List.forall_mem_cons.2 ⟨piece_lanes 3328 (by decide) inb_S256x3584_S256x128_0_3328 _ _ (xa_26 _ (kamax x1 x2) (kfield x1 x2) (kscale x1 x2) (kinv x1 x2)), ?_⟩
  refine List.forall_mem_cons.2 ⟨piece_lanes 3200 (by decide) inb_S256x3584_S256x128_0_3200 _ _ (xa_25 _ (kamax x1 x2) (kfield x1 x2) (kscale x1 x2) (kinv x1 x2)), ?_⟩
  refine List.forall_mem_cons.2 ⟨piece_lanes 3072 (by decide) inb_S256x3584_S256x128_0_3072 _ _ (xa_24 _ (kamax x1 x2) (kfield x1 x2) (kscale x1 x2) (kinv x1 x2)), ?_⟩
  refine List.forall_mem_cons.2 ⟨piece_lanes 2944 (by decide) inb_S256x3584_S256x128_0_2944 _ _ (xa_23 _ (kamax x1 x2) (kfield x1 x2) (kscale x1 x2) (kinv x1 x2)), ?_⟩
  refine List.forall_mem_cons.2 ⟨piece_lanes 2816 (by decide) inb_S256x3584_S256x128_0_2816 _ _ (xa_22 _ (kamax x1 x2) (kfield x1 x2) (kscale x1 x2) (kinv x1 x2)), ?_⟩
  refine List.forall_mem_cons.2 ⟨piece_lanes 2688 (by decide) inb_S256x3584_S256x128_0_2688 _ _ (xa_21 _ (kamax x1 x2) (kfield x1 x2) (kscale x1 x2) (kinv x1 x2)), ?_⟩
  refine List.forall_mem_cons.2 ⟨piece_lanes 2560 (by decide) inb_S256x3584_S256x128_0_2560 _ _ (xa_20 _ (kamax x1 x2) (kfield x1 x2) (kscale x1 x2) (kinv x1 x2)), ?_⟩
  refine List.forall_mem_cons.2 ⟨piece_lanes 2432 (by decide) inb_S256x3584_S256x128_0_2432 _ _ (xa_19 _ (kamax x1 x2) (kfield x1 x2) (kscale x1 x2) (kinv x1 x2)), ?_⟩
  refine List.forall_mem_cons.2 ⟨piece_lanes 2304 (by decide) inb_S256x3584_S256x128_0_2304 _ _ (xa_18 _ (kamax x1 x2) (kfield x1 x2) (kscale x1 x2) (kinv x1 x2)), ?_⟩
  refine List.forall_mem_cons.2 ⟨piece_lanes 2176 (by decide) inb_S256x3584_S256x128_0_2176 _ _ (xa_17 _ (kamax x1 x2) (kfield x1 x2) (kscale x1 x2) (kinv x1 x2)), ?_⟩
  refine List.forall_mem_cons.2 ⟨piece_lanes 2048 (by decide) inb_S256x3584_S256x128_0_2048 _ _ (xa_16 _ (kamax x1 x2) (kfield x1 x2) (kscale x1 x2) (kinv x1 x2)), ?_⟩
  refine List.forall_mem_cons.2 ⟨piece_lanes 1920 (by decide) inb_S256x3584_S256x128_0_1920 _ _ (xa_15 _ (kamax x1 x2) (kfield x1 x2) (kscale x1 x2) (kinv x1 x2)), ?_⟩
  refine List.forall_mem_cons.2 ⟨piece_lanes 1792 (by decide) inb_S256x3584_S256x128_0_1792 _ _ (xa_14 _ (kamax x1 x2) (kfield x1 x2) (kscale x1 x2) (kinv x1 x2)), ?_⟩
  refine List.forall_mem_cons.2 ⟨piece_lanes 1664 (by decide) inb_S256x3584_S256x128_0_1664 _ _ (xa_13 _ (kamax x1 x2) (kfield x1 x2) (kscale x1 x2) (kinv x1 x2)), ?_⟩
  refine List.forall_mem_cons.2 ⟨piece_lanes 1536 (by decide) inb_S256x3584_S256x128_0_1536 _ _ (xa_12 _ (kamax x1 x2) (kfield x1 x2) (kscale x1 x2) (kinv x1 x2)), ?_⟩
  refine List.forall_mem_cons.2 ⟨piece_lanes 1408 (by decide) inb_S256x3584_S256x128_0_1408 _ _ (xa_11 _ (kamax x1 x2) (kfield x1 x2) (kscale x1 x2) (kinv x1 x2)), ?_⟩
  refine List.forall_mem_cons.2 ⟨piece_lanes 1280 (by decide) inb_S256x3584_S256x128_0_1280 _ _ (xa_10 _ (kamax x1 x2) (kfield x1 x2) (kscale x1 x2) (kinv x1 x2)), ?_⟩
  refine List.forall_mem_cons.2 ⟨piece_lanes 1152 (by decide) inb_S256x3584_S256x128_0_1152 _ _ (xa_9 _ (kamax x1 x2) (kfield x1 x2) (kscale x1 x2) (kinv x1 x2)), ?_⟩
  refine List.forall_mem_cons.2 ⟨piece_lanes 1024 (by decide) inb_S256x3584_S256x128_0_1024 _ _ (xa_8 _ (kamax x1 x2) (kfield x1 x2) (kscale x1 x2) (kinv x1 x2)), ?_⟩
  refine List.forall_mem_cons.2 ⟨piece_lanes 896 (by decide) inb_S256x3584_S256x128_0_896 _ _ (xa_7 _ (kamax x1 x2) (kfield x1 x2) (kscale x1 x2) (kinv x1 x2)), ?_⟩
  refine List.forall_mem_cons.2 ⟨piece_lanes 768 (by decide) inb_S256x3584_S256x128_0_768 _ _ (xa_6 _ (kamax x1 x2) (kfield x1 x2) (kscale x1 x2) (kinv x1 x2)), ?_⟩
  refine List.forall_mem_cons.2 ⟨piece_lanes 640 (by decide) inb_S256x3584_S256x128_0_640 _ _ (xa_5 _ (kamax x1 x2) (kfield x1 x2) (kscale x1 x2) (kinv x1 x2)), ?_⟩
  refine List.forall_mem_cons.2 ⟨piece_lanes 512 (by decide) inb_S256x3584_S256x128_0_512 _ _ (xa_4 _ (kamax x1 x2) (kfield x1 x2) (kscale x1 x2) (kinv x1 x2)), ?_⟩
  refine List.forall_mem_cons.2 ⟨piece_lanes 384 (by decide) inb_S256x3584_S256x128_0_384 _ _ (xa_3 _ (kamax x1 x2) (kfield x1 x2) (kscale x1 x2) (kinv x1 x2)), ?_⟩
  refine List.forall_mem_cons.2 ⟨piece_lanes 256 (by decide) inb_S256x3584_S256x128_0_256 _ _ (xa_2 _ (kamax x1 x2) (kfield x1 x2) (kscale x1 x2) (kinv x1 x2)), ?_⟩
  refine List.forall_mem_cons.2 ⟨piece_lanes 128 (by decide) inb_S256x3584_S256x128_0_128 _ _ (xa_1 _ (kamax x1 x2) (kfield x1 x2) (kscale x1 x2) (kinv x1 x2)), ?_⟩
  refine List.forall_mem_cons.2 ⟨piece_lanes 0 (by decide) inb_S256x3584_S256x128_0_0 _ _ (xa_0 _ (kamax x1 x2) (kfield x1 x2) (kscale x1 x2) (kinv x1 x2)), ?_⟩
  exact fun p hp => absurd hp List.not_mem_nil

/-- The scales the first grid point leaves. -/
theorem xs_runA (c : Dev nD) (i : grid0.Coords) (arg1 : Memref sig .tc .smem S4 .i32) (harg1 : arg1.IsWhole) (arg2 : Memref sig .tc .vmem S256x3584 .bf16) (harg2 : arg2.IsWhole) (arg3 : Memref sig .tc .vmem S1x3584 .bf16) (harg3 : arg3.IsWhole) (arg4 : Memref sig .tc .vmem S3584x2048 .fp8e4m3) (harg4 : arg4.IsWhole) (arg5 : Memref sig .tc .vmem S28x16 .f32) (harg5 : arg5.IsWhole) (arg6 : Memref sig .tc .vmem S1x256 .bf16) (harg6 : arg6.IsWhole) (arg7 : Memref sig .tc .vmem S1x256 .bf16) (harg7 : arg7.IsWhole) (arg8 : Memref sig .tc .vmem S1x128 .f32) (harg8 : arg8.IsWhole) (arg9 : Memref sig .tc .vmem S256x1024 .bf16) (harg9 : arg9.IsWhole) (arg10 : Memref sig .tc .vmem S256x512 .bf16) (harg10 : arg10.IsWhole) (arg11 : Memref sig .tc .vmem S256x512 .bf16) (harg11 : arg11.IsWhole) (arg12 : Memref sig .tc .vmem S256x3584 .fp8e4m3) (harg12 : arg12.IsWhole) (arg13 : Memref sig .tc .vmem S256x28 .f32) (harg13 : arg13.IsWhole) (arg14 : Memref sig .tc .vmem S3584x2048 .bf16) (harg14 : arg14.IsWhole) (arg15 : Memref sig .tc .vmem S256x3584 .bf16) (harg15 : arg15.IsWhole) (hc0 : cond0_0 i)
    (x0 : Vec Ideal S4 .i32) (x1 : Vec Ideal S256x3584 .bf16) (x2 : Vec Ideal S1x3584 .bf16) (x3 : Vec Ideal S3584x2048 .fp8e4m3) (x4 : Vec Ideal S28x16 .f32) (x5 : Vec Ideal S1x256 .bf16) (x6 : Vec Ideal S1x256 .bf16) (x7 : Vec Ideal S1x128 .f32) (r : Fin 256) (l : Fin 28) :
    View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.2.1 (ix2 r l) = kscale x1 x2 (ix2 r ⟨l.val, by omega⟩) := by
  unfold kernelRun0_A
  dsimp only
  simp only [nameA_0, nameA_11, nameA_15, nameA_16, nameA_17, nameA_18, nameA_19, nameA_20, nameA_21, nameA_22, nameA_23, nameA_24, nameA_25, nameA_26, nameA_27, nameA_28, nameA_29, nameA_30, nameA_31, nameA_32, nameA_33]
  rw [View.canon_cons_unit_lit' (S := S256x28) _ _ _ (by decide)]
  pointwise [k0_pay57, kscale]

/-- The normalised rows, by their name. -/
theorem nameB_0 (c : Dev nD) (arg2 : Memref sig .tc .vmem S256x3584 .bf16) (harg2 : arg2.IsWhole) (arg3 : Memref sig .tc .vmem S1x3584 .bf16) (harg3 : arg3.IsWhole)
    (x1 : Vec Ideal S256x3584 .bf16) (x2 : Vec Ideal S1x3584 .bf16) :
    kernelRun0_B.sl.r c arg2 harg2 arg3 harg3 x1 x2 = k0_pay36 x1 x2 := by
  frame_out

/-- The magnitudes of the groups, by their name. -/
theorem nameB_11 (c : Dev nD) (arg2 : Memref sig .tc .vmem S256x3584 .bf16) (harg2 : arg2.IsWhole) (arg3 : Memref sig .tc .vmem S1x3584 .bf16) (harg3 : arg3.IsWhole)
    (x1 : Vec Ideal S256x3584 .bf16) (x2 : Vec Ideal S1x3584 .bf16) :
    kernelRun0_B.sl.r_11 c arg2 harg2 arg3 harg3 x1 x2 = kamax x1 x2 := by
  frame_out
  rfl

/-- The exponent fields, by their name. -/
theorem nameB_15 (c : Dev nD) (arg2 : Memref sig .tc .vmem S256x3584 .bf16) (harg2 : arg2.IsWhole) (arg3 : Memref sig .tc .vmem S1x3584 .bf16) (harg3 : arg3.IsWhole)
    (x1 : Vec Ideal S256x3584 .bf16) (x2 : Vec Ideal S1x3584 .bf16) :
    kernelRun0_B.sl.r_15 c arg2 harg2 arg3 harg3 x1 x2 = kfield x1 x2 := by
  frame_out
  rfl

/-- The scales, by their name. -/
theorem nameB_16 (c : Dev nD) (arg2 : Memref sig .tc .vmem S256x3584 .bf16) (harg2 : arg2.IsWhole) (arg3 : Memref sig .tc .vmem S1x3584 .bf16) (harg3 : arg3.IsWhole)
    (x1 : Vec Ideal S256x3584 .bf16) (x2 : Vec Ideal S1x3584 .bf16) :
    kernelRun0_B.sl.r_16 c arg2 harg2 arg3 harg3 x1 x2 = kscale x1 x2 := by
  unfold kernelRun0_B.sl.r_16
  rw [nameB_11, nameB_15]
  rfl

/-- The inverse scales, by their name. -/
theorem nameB_17 (c : Dev nD) (arg2 : Memref sig .tc .vmem S256x3584 .bf16) (harg2 : arg2.IsWhole) (arg3 : Memref sig .tc .vmem S1x3584 .bf16) (harg3 : arg3.IsWhole)
    (x1 : Vec Ideal S256x3584 .bf16) (x2 : Vec Ideal S1x3584 .bf16) :
    kernelRun0_B.sl.r_17 c arg2 harg2 arg3 harg3 x1 x2 = kinv x1 x2 := by
  unfold kernelRun0_B.sl.r_17
  rw [nameB_11, nameB_15]
  rfl

/-- One step of the body, in terms of the rows, the scales and the inverse scales. -/
theorem nameB_18 (c : Dev nD) (arg2 : Memref sig .tc .vmem S256x3584 .bf16) (harg2 : arg2.IsWhole) (arg3 : Memref sig .tc .vmem S1x3584 .bf16) (harg3 : arg3.IsWhole)
    (x1 : Vec Ideal S256x3584 .bf16) (x2 : Vec Ideal S1x3584 .bf16) :
    kernelRun0_B.sl.r_18 c arg2 harg2 arg3 harg3 x1 x2 = k0_pay58 (k0_pay36 x1 x2) (kamax x1 x2) (kfield x1 x2) := by
  unfold kernelRun0_B.sl.r_18
  simp only [nameB_0, nameB_11, nameB_15, nameB_16, nameB_17]

/-- One step of the body, in terms of the rows, the scales and the inverse scales. -/
theorem nameB_19 (c : Dev nD) (arg2 : Memref sig .tc .vmem S256x3584 .bf16) (harg2 : arg2.IsWhole) (arg3 : Memref sig .tc .vmem S1x3584 .bf16) (harg3 : arg3.IsWhole)
    (x1 : Vec Ideal S256x3584 .bf16) (x2 : Vec Ideal S1x3584 .bf16) :
    kernelRun0_B.sl.r_19 c arg2 harg2 arg3 harg3 x1 x2 = k0_pay64 (k0_pay36 x1 x2) (kinv x1 x2) := by
  unfold kernelRun0_B.sl.r_19
  simp only [nameB_0, nameB_11, nameB_15, nameB_16, nameB_17]

/-- One step of the body, in terms of the rows, the scales and the inverse scales. -/
theorem nameB_20 (c : Dev nD) (arg2 : Memref sig .tc .vmem S256x3584 .bf16) (harg2 : arg2.IsWhole) (arg3 : Memref sig .tc .vmem S1x3584 .bf16) (harg3 : arg3.IsWhole)
    (x1 : Vec Ideal S256x3584 .bf16) (x2 : Vec Ideal S1x3584 .bf16) :
    kernelRun0_B.sl.r_20 c arg2 harg2 arg3 harg3 x1 x2 = k0_pay69 (k0_pay36 x1 x2) (kscale x1 x2) (kinv x1 x2) := by
  unfold kernelRun0_B.sl.r_20
  simp only [nameB_0, nameB_11, nameB_15, nameB_16, nameB_17]

/-- One step of the body, in terms of the rows, the scales and the inverse scales. -/
theorem nameB_21 (c : Dev nD) (arg2 : Memref sig .tc .vmem S256x3584 .bf16) (harg2 : arg2.IsWhole) (arg3 : Memref sig .tc .vmem S1x3584 .bf16) (harg3 : arg3.IsWhole)
    (x1 : Vec Ideal S256x3584 .bf16) (x2 : Vec Ideal S1x3584 .bf16) :
    kernelRun0_B.sl.r_21 c arg2 harg2 arg3 harg3 x1 x2 = k0_pay75 (k0_pay36 x1 x2) (kinv x1 x2) := by
  unfold kernelRun0_B.sl.r_21
  simp only [nameB_0, nameB_11, nameB_15, nameB_16, nameB_17]

/-- One step of the body, in terms of the rows, the scales and the inverse scales. -/
theorem nameB_22 (c : Dev nD) (arg2 : Memref sig .tc .vmem S256x3584 .bf16) (harg2 : arg2.IsWhole) (arg3 : Memref sig .tc .vmem S1x3584 .bf16) (harg3 : arg3.IsWhole)
    (x1 : Vec Ideal S256x3584 .bf16) (x2 : Vec Ideal S1x3584 .bf16) :
    kernelRun0_B.sl.r_22 c arg2 harg2 arg3 harg3 x1 x2 = k0_pay80 (k0_pay36 x1 x2) (kinv x1 x2) := by
  unfold kernelRun0_B.sl.r_22
  simp only [nameB_0, nameB_11, nameB_15, nameB_16, nameB_17]

/-- One step of the body, in terms of the rows, the scales and the inverse scales. -/
theorem nameB_23 (c : Dev nD) (arg2 : Memref sig .tc .vmem S256x3584 .bf16) (harg2 : arg2.IsWhole) (arg3 : Memref sig .tc .vmem S1x3584 .bf16) (harg3 : arg3.IsWhole)
    (x1 : Vec Ideal S256x3584 .bf16) (x2 : Vec Ideal S1x3584 .bf16) :
    kernelRun0_B.sl.r_23 c arg2 harg2 arg3 harg3 x1 x2 = k0_pay85 (k0_pay36 x1 x2) (kscale x1 x2) (kinv x1 x2) := by
  unfold kernelRun0_B.sl.r_23
  simp only [nameB_0, nameB_11, nameB_15, nameB_16, nameB_17]

/-- One step of the body, in terms of the rows, the scales and the inverse scales. -/
theorem nameB_24 (c : Dev nD) (arg2 : Memref sig .tc .vmem S256x3584 .bf16) (harg2 : arg2.IsWhole) (arg3 : Memref sig .tc .vmem S1x3584 .bf16) (harg3 : arg3.IsWhole)
    (x1 : Vec Ideal S256x3584 .bf16) (x2 : Vec Ideal S1x3584 .bf16) :
    kernelRun0_B.sl.r_24 c arg2 harg2 arg3 harg3 x1 x2 = k0_pay91 (k0_pay36 x1 x2) := by
  unfold kernelRun0_B.sl.r_24
  simp only [nameB_0, nameB_11, nameB_15, nameB_16, nameB_17]

/-- One step of the body, in terms of the rows, the scales and the inverse scales. -/
theorem nameB_25 (c : Dev nD) (arg2 : Memref sig .tc .vmem S256x3584 .bf16) (harg2 : arg2.IsWhole) (arg3 : Memref sig .tc .vmem S1x3584 .bf16) (harg3 : arg3.IsWhole)
    (x1 : Vec Ideal S256x3584 .bf16) (x2 : Vec Ideal S1x3584 .bf16) :
    kernelRun0_B.sl.r_25 c arg2 harg2 arg3 harg3 x1 x2 = k0_pay92 (kinv x1 x2) := by
  unfold kernelRun0_B.sl.r_25
  simp only [nameB_0, nameB_11, nameB_15, nameB_16, nameB_17]

/-- One step of the body, in terms of the rows, the scales and the inverse scales. -/
theorem nameB_26 (c : Dev nD) (arg2 : Memref sig .tc .vmem S256x3584 .bf16) (harg2 : arg2.IsWhole) (arg3 : Memref sig .tc .vmem S1x3584 .bf16) (harg3 : arg3.IsWhole)
    (x1 : Vec Ideal S256x3584 .bf16) (x2 : Vec Ideal S1x3584 .bf16) :
    kernelRun0_B.sl.r_26 c arg2 harg2 arg3 harg3 x1 x2 = k0_pay97 (k0_pay36 x1 x2) (kinv x1 x2) := by
  unfold kernelRun0_B.sl.r_26
  simp only [nameB_0, nameB_11, nameB_15, nameB_16, nameB_17]

/-- One step of the body, in terms of the rows, the scales and the inverse scales. -/
theorem nameB_27 (c : Dev nD) (arg2 : Memref sig .tc .vmem S256x3584 .bf16) (harg2 : arg2.IsWhole) (arg3 : Memref sig .tc .vmem S1x3584 .bf16) (harg3 : arg3.IsWhole)
    (x1 : Vec Ideal S256x3584 .bf16) (x2 : Vec Ideal S1x3584 .bf16) :
    kernelRun0_B.sl.r_27 c arg2 harg2 arg3 harg3 x1 x2 = k0_pay102 (k0_pay36 x1 x2) (kinv x1 x2) := by
  unfold kernelRun0_B.sl.r_27
  simp only [nameB_0, nameB_11, nameB_15, nameB_16, nameB_17]

/-- One step of the body, in terms of the rows, the scales and the inverse scales. -/
theorem nameB_28 (c : Dev nD) (arg2 : Memref sig .tc .vmem S256x3584 .bf16) (harg2 : arg2.IsWhole) (arg3 : Memref sig .tc .vmem S1x3584 .bf16) (harg3 : arg3.IsWhole)
    (x1 : Vec Ideal S256x3584 .bf16) (x2 : Vec Ideal S1x3584 .bf16) :
    kernelRun0_B.sl.r_28 c arg2 harg2 arg3 harg3 x1 x2 = k0_pay103 (kscale x1 x2) := by
  unfold kernelRun0_B.sl.r_28
  simp only [nameB_0, nameB_11, nameB_15, nameB_16, nameB_17]

/-- One step of the body, in terms of the rows, the scales and the inverse scales. -/
theorem nameB_29 (c : Dev nD) (arg2 : Memref sig .tc .vmem S256x3584 .bf16) (harg2 : arg2.IsWhole) (arg3 : Memref sig .tc .vmem S1x3584 .bf16) (harg3 : arg3.IsWhole)
    (x1 : Vec Ideal S256x3584 .bf16) (x2 : Vec Ideal S1x3584 .bf16) :
    kernelRun0_B.sl.r_29 c arg2 harg2 arg3 harg3 x1 x2 = k0_pay109 (k0_pay36 x1 x2) := by
  unfold kernelRun0_B.sl.r_29
  simp only [nameB_0, nameB_11, nameB_15, nameB_16, nameB_17]

/-- One step of the body, in terms of the rows, the scales and the inverse scales. -/
theorem nameB_30 (c : Dev nD) (arg2 : Memref sig .tc .vmem S256x3584 .bf16) (harg2 : arg2.IsWhole) (arg3 : Memref sig .tc .vmem S1x3584 .bf16) (harg3 : arg3.IsWhole)
    (x1 : Vec Ideal S256x3584 .bf16) (x2 : Vec Ideal S1x3584 .bf16) :
    kernelRun0_B.sl.r_30 c arg2 harg2 arg3 harg3 x1 x2 = k0_pay114 (k0_pay36 x1 x2) (kinv x1 x2) := by
  unfold kernelRun0_B.sl.r_30
  simp only [nameB_0, nameB_11, nameB_15, nameB_16, nameB_17]

/-- One step of the body, in terms of the rows, the scales and the inverse scales. -/
theorem nameB_31 (c : Dev nD) (arg2 : Memref sig .tc .vmem S256x3584 .bf16) (harg2 : arg2.IsWhole) (arg3 : Memref sig .tc .vmem S1x3584 .bf16) (harg3 : arg3.IsWhole)
    (x1 : Vec Ideal S256x3584 .bf16) (x2 : Vec Ideal S1x3584 .bf16) :
    kernelRun0_B.sl.r_31 c arg2 harg2 arg3 harg3 x1 x2 = k0_pay121 (k0_pay36 x1 x2) (kinv x1 x2) := by
  unfold kernelRun0_B.sl.r_31
  simp only [nameB_0, nameB_11, nameB_15, nameB_16, nameB_17]

/-- One step of the body, in terms of the rows, the scales and the inverse scales. -/
theorem nameB_32 (c : Dev nD) (arg2 : Memref sig .tc .vmem S256x3584 .bf16) (harg2 : arg2.IsWhole) (arg3 : Memref sig .tc .vmem S1x3584 .bf16) (harg3 : arg3.IsWhole)
    (x1 : Vec Ideal S256x3584 .bf16) (x2 : Vec Ideal S1x3584 .bf16) :
    kernelRun0_B.sl.r_32 c arg2 harg2 arg3 harg3 x1 x2 = k0_pay122 (kscale x1 x2) := by
  unfold kernelRun0_B.sl.r_32
  simp only [nameB_0, nameB_11, nameB_15, nameB_16, nameB_17]

/-- One step of the body, in terms of the rows, the scales and the inverse scales. -/
theorem nameB_33 (c : Dev nD) (arg2 : Memref sig .tc .vmem S256x3584 .bf16) (harg2 : arg2.IsWhole) (arg3 : Memref sig .tc .vmem S1x3584 .bf16) (harg3 : arg3.IsWhole)
    (x1 : Vec Ideal S256x3584 .bf16) (x2 : Vec Ideal S1x3584 .bf16) :
    kernelRun0_B.sl.r_33 c arg2 harg2 arg3 harg3 x1 x2 = k0_pay127 (k0_pay36 x1 x2) (kscale x1 x2) (kinv x1 x2) := by
  unfold kernelRun0_B.sl.r_33
  simp only [nameB_0, nameB_11, nameB_15, nameB_16, nameB_17]

/-- The codes a later grid point leaves. -/
theorem codes_runB (c : Dev nD) (i : grid0.Coords) (arg1 : Memref sig .tc .smem S4 .i32) (harg1 : arg1.IsWhole) (arg2 : Memref sig .tc .vmem S256x3584 .bf16) (harg2 : arg2.IsWhole) (arg3 : Memref sig .tc .vmem S1x3584 .bf16) (harg3 : arg3.IsWhole) (arg4 : Memref sig .tc .vmem S3584x2048 .fp8e4m3) (harg4 : arg4.IsWhole) (arg5 : Memref sig .tc .vmem S28x16 .f32) (harg5 : arg5.IsWhole) (arg6 : Memref sig .tc .vmem S1x256 .bf16) (harg6 : arg6.IsWhole) (arg7 : Memref sig .tc .vmem S1x256 .bf16) (harg7 : arg7.IsWhole) (arg8 : Memref sig .tc .vmem S1x128 .f32) (harg8 : arg8.IsWhole) (arg9 : Memref sig .tc .vmem S256x1024 .bf16) (harg9 : arg9.IsWhole) (arg10 : Memref sig .tc .vmem S256x512 .bf16) (harg10 : arg10.IsWhole) (arg11 : Memref sig .tc .vmem S256x512 .bf16) (harg11 : arg11.IsWhole) (arg12 : Memref sig .tc .vmem S256x3584 .fp8e4m3) (harg12 : arg12.IsWhole) (arg13 : Memref sig .tc .vmem S256x28 .f32) (harg13 : arg13.IsWhole) (arg14 : Memref sig .tc .vmem S3584x2048 .bf16) (harg14 : arg14.IsWhole) (arg15 : Memref sig .tc .vmem S256x3584 .bf16) (harg15 : arg15.IsWhole) (hc0 : ¬cond0_0 i)
    (x0 : Vec Ideal S4 .i32) (x1 : Vec Ideal S256x3584 .bf16) (x2 : Vec Ideal S1x3584 .bf16) (x3 : Vec Ideal S3584x2048 .fp8e4m3) (x4 : Vec Ideal S28x16 .f32) (x5 : Vec Ideal S1x256 .bf16) (x6 : Vec Ideal S1x256 .bf16) (x7 : Vec Ideal S1x128 .f32) (xs0 : Vec Ideal S3584x2048 .bf16) :
    View.canon (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.2.2.1 = codesG (k0_pay36 x1 x2) (kinv x1 x2) := by
  funext y
  refine View.canon_apply_of_pieces _ _ ?_ y (cover0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 y)
  unfold kernelRun0_B
  dsimp only
  simp only [nameB_0, nameB_11, nameB_15, nameB_16, nameB_17, nameB_18, nameB_19, nameB_20, nameB_21, nameB_22, nameB_23, nameB_24, nameB_25, nameB_26, nameB_27, nameB_28, nameB_29, nameB_30, nameB_31, nameB_32, nameB_33, kernelRun0_B.sl.cst_99, kernelRun0_B.sl.cst_64]
  refine List.forall_mem_cons.2 ⟨piece_lanes 3456 (by decide) inb_S256x3584_S256x128_0_3456 _ _ (codes_27 _ (kamax x1 x2) (kfield x1 x2) (kscale x1 x2) (kinv x1 x2)), ?_⟩
  refine List.forall_mem_cons.2 ⟨piece_lanes 3328 (by decide) inb_S256x3584_S256x128_0_3328 _ _ (codes_26 _ (kamax x1 x2) (kfield x1 x2) (kscale x1 x2) (kinv x1 x2)), ?_⟩
  refine List.forall_mem_cons.2 ⟨piece_lanes 3200 (by decide) inb_S256x3584_S256x128_0_3200 _ _ (codes_25 _ (kamax x1 x2) (kfield x1 x2) (kscale x1 x2) (kinv x1 x2)), ?_⟩
  refine List.forall_mem_cons.2 ⟨piece_lanes 3072 (by decide) inb_S256x3584_S256x128_0_3072 _ _ (codes_24 _ (kamax x1 x2) (kfield x1 x2) (kscale x1 x2) (kinv x1 x2)), ?_⟩
  refine List.forall_mem_cons.2 ⟨piece_lanes 2944 (by decide) inb_S256x3584_S256x128_0_2944 _ _ (codes_23 _ (kamax x1 x2) (kfield x1 x2) (kscale x1 x2) (kinv x1 x2)), ?_⟩
  refine List.forall_mem_cons.2 ⟨piece_lanes 2816 (by decide) inb_S256x3584_S256x128_0_2816 _ _ (codes_22 _ (kamax x1 x2) (kfield x1 x2) (kscale x1 x2) (kinv x1 x2)), ?_⟩
  refine List.forall_mem_cons.2 ⟨piece_lanes 2688 (by decide) inb_S256x3584_S256x128_0_2688 _ _ (codes_21 _ (kamax x1 x2) (kfield x1 x2) (kscale x1 x2) (kinv x1 x2)), ?_⟩
  refine List.forall_mem_cons.2 ⟨piece_lanes 2560 (by decide) inb_S256x3584_S256x128_0_2560 _ _ (codes_20 _ (kamax x1 x2) (kfield x1 x2) (kscale x1 x2) (kinv x1 x2)), ?_⟩
  refine List.forall_mem_cons.2 ⟨piece_lanes 2432 (by decide) inb_S256x3584_S256x128_0_2432 _ _ (codes_19 _ (kamax x1 x2) (kfield x1 x2) (kscale x1 x2) (kinv x1 x2)), ?_⟩
  refine List.forall_mem_cons.2 ⟨piece_lanes 2304 (by decide) inb_S256x3584_S256x128_0_2304 _ _ (codes_18 _ (kamax x1 x2) (kfield x1 x2) (kscale x1 x2) (kinv x1 x2)), ?_⟩
  refine List.forall_mem_cons.2 ⟨piece_lanes 2176 (by decide) inb_S256x3584_S256x128_0_2176 _ _ (codes_17 _ (kamax x1 x2) (kfield x1 x2) (kscale x1 x2) (kinv x1 x2)), ?_⟩
  refine List.forall_mem_cons.2 ⟨piece_lanes 2048 (by decide) inb_S256x3584_S256x128_0_2048 _ _ (codes_16 _ (kamax x1 x2) (kfield x1 x2) (kscale x1 x2) (kinv x1 x2)), ?_⟩
  refine List.forall_mem_cons.2 ⟨piece_lanes 1920 (by decide) inb_S256x3584_S256x128_0_1920 _ _ (codes_15 _ (kamax x1 x2) (kfield x1 x2) (kscale x1 x2) (kinv x1 x2)), ?_⟩
  refine List.forall_mem_cons.2 ⟨piece_lanes 1792 (by decide) inb_S256x3584_S256x128_0_1792 _ _ (codes_14 _ (kamax x1 x2) (kfield x1 x2) (kscale x1 x2) (kinv x1 x2)), ?_⟩
  refine List.forall_mem_cons.2 ⟨piece_lanes 1664 (by decide) inb_S256x3584_S256x128_0_1664 _ _ (codes_13 _ (kamax x1 x2) (kfield x1 x2) (kscale x1 x2) (kinv x1 x2)), ?_⟩
  refine List.forall_mem_cons.2 ⟨piece_lanes 1536 (by decide) inb_S256x3584_S256x128_0_1536 _ _ (codes_12 _ (kamax x1 x2) (kfield x1 x2) (kscale x1 x2) (kinv x1 x2)), ?_⟩
  refine List.forall_mem_cons.2 ⟨piece_lanes 1408 (by decide) inb_S256x3584_S256x128_0_1408 _ _ (codes_11 _ (kamax x1 x2) (kfield x1 x2) (kscale x1 x2) (kinv x1 x2)), ?_⟩
  refine List.forall_mem_cons.2 ⟨piece_lanes 1280 (by decide) inb_S256x3584_S256x128_0_1280 _ _ (codes_10 _ (kamax x1 x2) (kfield x1 x2) (kscale x1 x2) (kinv x1 x2)), ?_⟩
  refine List.forall_mem_cons.2 ⟨piece_lanes 1152 (by decide) inb_S256x3584_S256x128_0_1152 _ _ (codes_9 _ (kamax x1 x2) (kfield x1 x2) (kscale x1 x2) (kinv x1 x2)), ?_⟩
  refine List.forall_mem_cons.2 ⟨piece_lanes 1024 (by decide) inb_S256x3584_S256x128_0_1024 _ _ (codes_8 _ (kamax x1 x2) (kfield x1 x2) (kscale x1 x2) (kinv x1 x2)), ?_⟩
  refine List.forall_mem_cons.2 ⟨piece_lanes 896 (by decide) inb_S256x3584_S256x128_0_896 _ _ (codes_7 _ (kamax x1 x2) (kfield x1 x2) (kscale x1 x2) (kinv x1 x2)), ?_⟩
  refine List.forall_mem_cons.2 ⟨piece_lanes 768 (by decide) inb_S256x3584_S256x128_0_768 _ _ (codes_6 _ (kamax x1 x2) (kfield x1 x2) (kscale x1 x2) (kinv x1 x2)), ?_⟩
  refine List.forall_mem_cons.2 ⟨piece_lanes 640 (by decide) inb_S256x3584_S256x128_0_640 _ _ (codes_5 _ (kamax x1 x2) (kfield x1 x2) (kscale x1 x2) (kinv x1 x2)), ?_⟩
  refine List.forall_mem_cons.2 ⟨piece_lanes 512 (by decide) inb_S256x3584_S256x128_0_512 _ _ (codes_4 _ (kamax x1 x2) (kfield x1 x2) (kscale x1 x2) (kinv x1 x2)), ?_⟩
  refine List.forall_mem_cons.2 ⟨piece_lanes 384 (by decide) inb_S256x3584_S256x128_0_384 _ _ (codes_3 _ (kamax x1 x2) (kfield x1 x2) (kscale x1 x2) (kinv x1 x2)), ?_⟩
  refine List.forall_mem_cons.2 ⟨piece_lanes 256 (by decide) inb_S256x3584_S256x128_0_256 _ _ (codes_2 _ (kamax x1 x2) (kfield x1 x2) (kscale x1 x2) (kinv x1 x2)), ?_⟩
  refine List.forall_mem_cons.2 ⟨piece_lanes 128 (by decide) inb_S256x3584_S256x128_0_128 _ _ (codes_1 _ (kamax x1 x2) (kfield x1 x2) (kscale x1 x2) (kinv x1 x2)), ?_⟩
  refine List.forall_mem_cons.2 ⟨piece_lanes 0 (by decide) inb_S256x3584_S256x128_0_0 _ _ (codes_0 _ (kamax x1 x2) (kfield x1 x2) (kscale x1 x2) (kinv x1 x2)), ?_⟩
  exact fun p hp => absurd hp List.not_mem_nil

/-- The dequantised activations a later grid point leaves. -/
theorem xa_runB (c : Dev nD) (arg2 : Memref sig .tc .vmem S256x3584 .bf16) (harg2 : arg2.IsWhole) (arg3 : Memref sig .tc .vmem S1x3584 .bf16) (harg3 : arg3.IsWhole)
    (x1 : Vec Ideal S256x3584 .bf16) (x2 : Vec Ideal S1x3584 .bf16) :
    View.canon (kernelRun0_B.sl.HS1_28 c arg2 harg2 arg3 harg3 x1 x2) = xaG (k0_pay36 x1 x2) (kscale x1 x2) (kinv x1 x2) := by
  funext y
  refine View.canon_apply_of_pieces _ _ ?_ y (View.cover_of_tiledL (kernelRun0_B.sl.HS1_28 c arg2 harg2 arg3 harg3 x1 x2) S256x128.size (by sl_kernel_rfl) y)
  unfold kernelRun0_B.sl.HS1_28
  simp only [nameB_0, nameB_11, nameB_15, nameB_16, nameB_17, nameB_18, nameB_19, nameB_20, nameB_21, nameB_22, nameB_23, nameB_24, nameB_25, nameB_26, nameB_27, nameB_28, nameB_29, nameB_30, nameB_31, nameB_32, nameB_33, kernelRun0_B.sl.cst_99, kernelRun0_B.sl.cst_64]
  refine List.forall_mem_cons.2 ⟨piece_lanes 3456 (by decide) inb_S256x3584_S256x128_0_3456 _ _ (xa_27 _ (kamax x1 x2) (kfield x1 x2) (kscale x1 x2) (kinv x1 x2)), ?_⟩
  refine List.forall_mem_cons.2 ⟨piece_lanes 3328 (by decide) inb_S256x3584_S256x128_0_3328 _ _ (xa_26 _ (kamax x1 x2) (kfield x1 x2) (kscale x1 x2) (kinv x1 x2)), ?_⟩
  refine List.forall_mem_cons.2 ⟨piece_lanes 3200 (by decide) inb_S256x3584_S256x128_0_3200 _ _ (xa_25 _ (kamax x1 x2) (kfield x1 x2) (kscale x1 x2) (kinv x1 x2)), ?_⟩
  refine List.forall_mem_cons.2 ⟨piece_lanes 3072 (by decide) inb_S256x3584_S256x128_0_3072 _ _ (xa_24 _ (kamax x1 x2) (kfield x1 x2) (kscale x1 x2) (kinv x1 x2)), ?_⟩
  refine List.forall_mem_cons.2 ⟨piece_lanes 2944 (by decide) inb_S256x3584_S256x128_0_2944 _ _ (xa_23 _ (kamax x1 x2) (kfield x1 x2) (kscale x1 x2) (kinv x1 x2)), ?_⟩
  refine List.forall_mem_cons.2 ⟨piece_lanes 2816 (by decide) inb_S256x3584_S256x128_0_2816 _ _ (xa_22 _ (kamax x1 x2) (kfield x1 x2) (kscale x1 x2) (kinv x1 x2)), ?_⟩
  refine List.forall_mem_cons.2 ⟨piece_lanes 2688 (by decide) inb_S256x3584_S256x128_0_2688 _ _ (xa_21 _ (kamax x1 x2) (kfield x1 x2) (kscale x1 x2) (kinv x1 x2)), ?_⟩
  refine List.forall_mem_cons.2 ⟨piece_lanes 2560 (by decide) inb_S256x3584_S256x128_0_2560 _ _ (xa_20 _ (kamax x1 x2) (kfield x1 x2) (kscale x1 x2) (kinv x1 x2)), ?_⟩
  refine List.forall_mem_cons.2 ⟨piece_lanes 2432 (by decide) inb_S256x3584_S256x128_0_2432 _ _ (xa_19 _ (kamax x1 x2) (kfield x1 x2) (kscale x1 x2) (kinv x1 x2)), ?_⟩
  refine List.forall_mem_cons.2 ⟨piece_lanes 2304 (by decide) inb_S256x3584_S256x128_0_2304 _ _ (xa_18 _ (kamax x1 x2) (kfield x1 x2) (kscale x1 x2) (kinv x1 x2)), ?_⟩
  refine List.forall_mem_cons.2 ⟨piece_lanes 2176 (by decide) inb_S256x3584_S256x128_0_2176 _ _ (xa_17 _ (kamax x1 x2) (kfield x1 x2) (kscale x1 x2) (kinv x1 x2)), ?_⟩
  refine List.forall_mem_cons.2 ⟨piece_lanes 2048 (by decide) inb_S256x3584_S256x128_0_2048 _ _ (xa_16 _ (kamax x1 x2) (kfield x1 x2) (kscale x1 x2) (kinv x1 x2)), ?_⟩
  refine List.forall_mem_cons.2 ⟨piece_lanes 1920 (by decide) inb_S256x3584_S256x128_0_1920 _ _ (xa_15 _ (kamax x1 x2) (kfield x1 x2) (kscale x1 x2) (kinv x1 x2)), ?_⟩
  refine List.forall_mem_cons.2 ⟨piece_lanes 1792 (by decide) inb_S256x3584_S256x128_0_1792 _ _ (xa_14 _ (kamax x1 x2) (kfield x1 x2) (kscale x1 x2) (kinv x1 x2)), ?_⟩
  refine List.forall_mem_cons.2 ⟨piece_lanes 1664 (by decide) inb_S256x3584_S256x128_0_1664 _ _ (xa_13 _ (kamax x1 x2) (kfield x1 x2) (kscale x1 x2) (kinv x1 x2)), ?_⟩
  refine List.forall_mem_cons.2 ⟨piece_lanes 1536 (by decide) inb_S256x3584_S256x128_0_1536 _ _ (xa_12 _ (kamax x1 x2) (kfield x1 x2) (kscale x1 x2) (kinv x1 x2)), ?_⟩
  refine List.forall_mem_cons.2 ⟨piece_lanes 1408 (by decide) inb_S256x3584_S256x128_0_1408 _ _ (xa_11 _ (kamax x1 x2) (kfield x1 x2) (kscale x1 x2) (kinv x1 x2)), ?_⟩
  refine List.forall_mem_cons.2 ⟨piece_lanes 1280 (by decide) inb_S256x3584_S256x128_0_1280 _ _ (xa_10 _ (kamax x1 x2) (kfield x1 x2) (kscale x1 x2) (kinv x1 x2)), ?_⟩
  refine List.forall_mem_cons.2 ⟨piece_lanes 1152 (by decide) inb_S256x3584_S256x128_0_1152 _ _ (xa_9 _ (kamax x1 x2) (kfield x1 x2) (kscale x1 x2) (kinv x1 x2)), ?_⟩
  refine List.forall_mem_cons.2 ⟨piece_lanes 1024 (by decide) inb_S256x3584_S256x128_0_1024 _ _ (xa_8 _ (kamax x1 x2) (kfield x1 x2) (kscale x1 x2) (kinv x1 x2)), ?_⟩
  refine List.forall_mem_cons.2 ⟨piece_lanes 896 (by decide) inb_S256x3584_S256x128_0_896 _ _ (xa_7 _ (kamax x1 x2) (kfield x1 x2) (kscale x1 x2) (kinv x1 x2)), ?_⟩
  refine List.forall_mem_cons.2 ⟨piece_lanes 768 (by decide) inb_S256x3584_S256x128_0_768 _ _ (xa_6 _ (kamax x1 x2) (kfield x1 x2) (kscale x1 x2) (kinv x1 x2)), ?_⟩
  refine List.forall_mem_cons.2 ⟨piece_lanes 640 (by decide) inb_S256x3584_S256x128_0_640 _ _ (xa_5 _ (kamax x1 x2) (kfield x1 x2) (kscale x1 x2) (kinv x1 x2)), ?_⟩
  refine List.forall_mem_cons.2 ⟨piece_lanes 512 (by decide) inb_S256x3584_S256x128_0_512 _ _ (xa_4 _ (kamax x1 x2) (kfield x1 x2) (kscale x1 x2) (kinv x1 x2)), ?_⟩
  refine List.forall_mem_cons.2 ⟨piece_lanes 384 (by decide) inb_S256x3584_S256x128_0_384 _ _ (xa_3 _ (kamax x1 x2) (kfield x1 x2) (kscale x1 x2) (kinv x1 x2)), ?_⟩
  refine List.forall_mem_cons.2 ⟨piece_lanes 256 (by decide) inb_S256x3584_S256x128_0_256 _ _ (xa_2 _ (kamax x1 x2) (kfield x1 x2) (kscale x1 x2) (kinv x1 x2)), ?_⟩
  refine List.forall_mem_cons.2 ⟨piece_lanes 128 (by decide) inb_S256x3584_S256x128_0_128 _ _ (xa_1 _ (kamax x1 x2) (kfield x1 x2) (kscale x1 x2) (kinv x1 x2)), ?_⟩
  refine List.forall_mem_cons.2 ⟨piece_lanes 0 (by decide) inb_S256x3584_S256x128_0_0 _ _ (xa_0 _ (kamax x1 x2) (kfield x1 x2) (kscale x1 x2) (kinv x1 x2)), ?_⟩
  exact fun p hp => absurd hp List.not_mem_nil

/-- The scales a later grid point leaves. -/
theorem xs_runB (c : Dev nD) (i : grid0.Coords) (arg1 : Memref sig .tc .smem S4 .i32) (harg1 : arg1.IsWhole) (arg2 : Memref sig .tc .vmem S256x3584 .bf16) (harg2 : arg2.IsWhole) (arg3 : Memref sig .tc .vmem S1x3584 .bf16) (harg3 : arg3.IsWhole) (arg4 : Memref sig .tc .vmem S3584x2048 .fp8e4m3) (harg4 : arg4.IsWhole) (arg5 : Memref sig .tc .vmem S28x16 .f32) (harg5 : arg5.IsWhole) (arg6 : Memref sig .tc .vmem S1x256 .bf16) (harg6 : arg6.IsWhole) (arg7 : Memref sig .tc .vmem S1x256 .bf16) (harg7 : arg7.IsWhole) (arg8 : Memref sig .tc .vmem S1x128 .f32) (harg8 : arg8.IsWhole) (arg9 : Memref sig .tc .vmem S256x1024 .bf16) (harg9 : arg9.IsWhole) (arg10 : Memref sig .tc .vmem S256x512 .bf16) (harg10 : arg10.IsWhole) (arg11 : Memref sig .tc .vmem S256x512 .bf16) (harg11 : arg11.IsWhole) (arg12 : Memref sig .tc .vmem S256x3584 .fp8e4m3) (harg12 : arg12.IsWhole) (arg13 : Memref sig .tc .vmem S256x28 .f32) (harg13 : arg13.IsWhole) (arg14 : Memref sig .tc .vmem S3584x2048 .bf16) (harg14 : arg14.IsWhole) (arg15 : Memref sig .tc .vmem S256x3584 .bf16) (harg15 : arg15.IsWhole) (hc0 : ¬cond0_0 i)
    (x0 : Vec Ideal S4 .i32) (x1 : Vec Ideal S256x3584 .bf16) (x2 : Vec Ideal S1x3584 .bf16) (x3 : Vec Ideal S3584x2048 .fp8e4m3) (x4 : Vec Ideal S28x16 .f32) (x5 : Vec Ideal S1x256 .bf16) (x6 : Vec Ideal S1x256 .bf16) (x7 : Vec Ideal S1x128 .f32) (xs0 : Vec Ideal S3584x2048 .bf16) (r : Fin 256) (l : Fin 28) :
    View.canon (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.2.2.2.1 (ix2 r l) = kscale x1 x2 (ix2 r ⟨l.val, by omega⟩) := by
  unfold kernelRun0_B
  dsimp only
  simp only [nameB_0, nameB_11, nameB_15, nameB_16, nameB_17, nameB_18, nameB_19, nameB_20, nameB_21, nameB_22, nameB_23, nameB_24, nameB_25, nameB_26, nameB_27, nameB_28, nameB_29, nameB_30, nameB_31, nameB_32, nameB_33]
  rw [View.canon_cons_unit_lit' (S := S256x28) _ _ _ (by decide)]
  pointwise [k0_pay57, kscale]

/-- A band of rows read from the weight. -/
theorem ld_rows (x3 : Vec Ideal S3584x2048 .fp8e4m3) (o : Nat) (ho : o + 128 ≤ 3584) (hi) (r : Fin 128) (l : Fin 2048) :
    (View.ld x3 (Rect.unit ![o, 0] S128x2048.size hi) : Vec Ideal S128x2048 .fp8e4m3) (ix2 r l) = x3 (ix2 ⟨o + r.val, by omega⟩ l) :=
  congrArg x3 (emb_rows o hi r l _)

/-- The dequantised weight the first grid point leaves in the scratch. -/
theorem wa_run (c : Dev nD) (arg4 : Memref sig .tc .vmem S3584x2048 .fp8e4m3) (harg4 : arg4.IsWhole) (arg5 : Memref sig .tc .vmem S28x16 .f32) (harg5 : arg5.IsWhole)
    (x3 : Vec Ideal S3584x2048 .fp8e4m3) (x4 : Vec Ideal S28x16 .f32) :
    View.canon (kernelRun0_A.sl.HS0_28 c arg4 harg4 arg5 harg5 x3 x4) = waG x3 (k0_pay2 x4) := by
  funext y
  refine View.canon_apply_of_pieces _ _ ?_ y (View.cover_of_tiledL (kernelRun0_A.sl.HS0_28 c arg4 harg4 arg5 harg5 x3 x4) S128x2048.size (by sl_kernel_rfl) y)
  unfold kernelRun0_A.sl.HS0_28
  frame_out
  refine List.forall_mem_cons.2 ⟨piece_rows 3456 (by decide) inb_S3584x2048_S128x2048_3456_0 _ _ (wa_27 x4 _ rfl x3 _ (ld_rows x3 3456 (by decide) inb_S3584x2048_S128x2048_3456_0)), ?_⟩
  refine List.forall_mem_cons.2 ⟨piece_rows 3328 (by decide) inb_S3584x2048_S128x2048_3328_0 _ _ (wa_26 x4 _ rfl x3 _ (ld_rows x3 3328 (by decide) inb_S3584x2048_S128x2048_3328_0)), ?_⟩
  refine List.forall_mem_cons.2 ⟨piece_rows 3200 (by decide) inb_S3584x2048_S128x2048_3200_0 _ _ (wa_25 x4 _ rfl x3 _ (ld_rows x3 3200 (by decide) inb_S3584x2048_S128x2048_3200_0)), ?_⟩
  refine List.forall_mem_cons.2 ⟨piece_rows 3072 (by decide) inb_S3584x2048_S128x2048_3072_0 _ _ (wa_24 x4 _ rfl x3 _ (ld_rows x3 3072 (by decide) inb_S3584x2048_S128x2048_3072_0)), ?_⟩
  refine List.forall_mem_cons.2 ⟨piece_rows 2944 (by decide) inb_S3584x2048_S128x2048_2944_0 _ _ (wa_23 x4 _ rfl x3 _ (ld_rows x3 2944 (by decide) inb_S3584x2048_S128x2048_2944_0)), ?_⟩
  refine List.forall_mem_cons.2 ⟨piece_rows 2816 (by decide) inb_S3584x2048_S128x2048_2816_0 _ _ (wa_22 x4 _ rfl x3 _ (ld_rows x3 2816 (by decide) inb_S3584x2048_S128x2048_2816_0)), ?_⟩
  refine List.forall_mem_cons.2 ⟨piece_rows 2688 (by decide) inb_S3584x2048_S128x2048_2688_0 _ _ (wa_21 x4 _ rfl x3 _ (ld_rows x3 2688 (by decide) inb_S3584x2048_S128x2048_2688_0)), ?_⟩
  refine List.forall_mem_cons.2 ⟨piece_rows 2560 (by decide) inb_S3584x2048_S128x2048_2560_0 _ _ (wa_20 x4 _ rfl x3 _ (ld_rows x3 2560 (by decide) inb_S3584x2048_S128x2048_2560_0)), ?_⟩
  refine List.forall_mem_cons.2 ⟨piece_rows 2432 (by decide) inb_S3584x2048_S128x2048_2432_0 _ _ (wa_19 x4 _ rfl x3 _ (ld_rows x3 2432 (by decide) inb_S3584x2048_S128x2048_2432_0)), ?_⟩
  refine List.forall_mem_cons.2 ⟨piece_rows 2304 (by decide) inb_S3584x2048_S128x2048_2304_0 _ _ (wa_18 x4 _ rfl x3 _ (ld_rows x3 2304 (by decide) inb_S3584x2048_S128x2048_2304_0)), ?_⟩
  refine List.forall_mem_cons.2 ⟨piece_rows 2176 (by decide) inb_S3584x2048_S128x2048_2176_0 _ _ (wa_17 x4 _ rfl x3 _ (ld_rows x3 2176 (by decide) inb_S3584x2048_S128x2048_2176_0)), ?_⟩
  refine List.forall_mem_cons.2 ⟨piece_rows 2048 (by decide) inb_S3584x2048_S128x2048_2048_0 _ _ (wa_16 x4 _ rfl x3 _ (ld_rows x3 2048 (by decide) inb_S3584x2048_S128x2048_2048_0)), ?_⟩
  refine List.forall_mem_cons.2 ⟨piece_rows 1920 (by decide) inb_S3584x2048_S128x2048_1920_0 _ _ (wa_15 x4 _ rfl x3 _ (ld_rows x3 1920 (by decide) inb_S3584x2048_S128x2048_1920_0)), ?_⟩
  refine List.forall_mem_cons.2 ⟨piece_rows 1792 (by decide) inb_S3584x2048_S128x2048_1792_0 _ _ (wa_14 x4 _ rfl x3 _ (ld_rows x3 1792 (by decide) inb_S3584x2048_S128x2048_1792_0)), ?_⟩
  refine List.forall_mem_cons.2 ⟨piece_rows 1664 (by decide) inb_S3584x2048_S128x2048_1664_0 _ _ (wa_13 x4 _ rfl x3 _ (ld_rows x3 1664 (by decide) inb_S3584x2048_S128x2048_1664_0)), ?_⟩
  refine List.forall_mem_cons.2 ⟨piece_rows 1536 (by decide) inb_S3584x2048_S128x2048_1536_0 _ _ (wa_12 x4 _ rfl x3 _ (ld_rows x3 1536 (by decide) inb_S3584x2048_S128x2048_1536_0)), ?_⟩
  refine List.forall_mem_cons.2 ⟨piece_rows 1408 (by decide) inb_S3584x2048_S128x2048_1408_0 _ _ (wa_11 x4 _ rfl x3 _ (ld_rows x3 1408 (by decide) inb_S3584x2048_S128x2048_1408_0)), ?_⟩
  refine List.forall_mem_cons.2 ⟨piece_rows 1280 (by decide) inb_S3584x2048_S128x2048_1280_0 _ _ (wa_10 x4 _ rfl x3 _ (ld_rows x3 1280 (by decide) inb_S3584x2048_S128x2048_1280_0)), ?_⟩
  refine List.forall_mem_cons.2 ⟨piece_rows 1152 (by decide) inb_S3584x2048_S128x2048_1152_0 _ _ (wa_9 x4 _ rfl x3 _ (ld_rows x3 1152 (by decide) inb_S3584x2048_S128x2048_1152_0)), ?_⟩
  refine List.forall_mem_cons.2 ⟨piece_rows 1024 (by decide) inb_S3584x2048_S128x2048_1024_0 _ _ (wa_8 x4 _ rfl x3 _ (ld_rows x3 1024 (by decide) inb_S3584x2048_S128x2048_1024_0)), ?_⟩
  refine List.forall_mem_cons.2 ⟨piece_rows 896 (by decide) inb_S3584x2048_S128x2048_896_0 _ _ (wa_7 x4 _ rfl x3 _ (ld_rows x3 896 (by decide) inb_S3584x2048_S128x2048_896_0)), ?_⟩
  refine List.forall_mem_cons.2 ⟨piece_rows 768 (by decide) inb_S3584x2048_S128x2048_768_0 _ _ (wa_6 x4 _ rfl x3 _ (ld_rows x3 768 (by decide) inb_S3584x2048_S128x2048_768_0)), ?_⟩
  refine List.forall_mem_cons.2 ⟨piece_rows 640 (by decide) inb_S3584x2048_S128x2048_640_0 _ _ (wa_5 x4 _ rfl x3 _ (ld_rows x3 640 (by decide) inb_S3584x2048_S128x2048_640_0)), ?_⟩
  refine List.forall_mem_cons.2 ⟨piece_rows 512 (by decide) inb_S3584x2048_S128x2048_512_0 _ _ (wa_4 x4 _ rfl x3 _ (ld_rows x3 512 (by decide) inb_S3584x2048_S128x2048_512_0)), ?_⟩
  refine List.forall_mem_cons.2 ⟨piece_rows 384 (by decide) inb_S3584x2048_S128x2048_384_0 _ _ (wa_3 x4 _ rfl x3 _ (ld_rows x3 384 (by decide) inb_S3584x2048_S128x2048_384_0)), ?_⟩
  refine List.forall_mem_cons.2 ⟨piece_rows 256 (by decide) inb_S3584x2048_S128x2048_256_0 _ _ (wa_2 x4 _ rfl x3 _ (ld_rows x3 256 (by decide) inb_S3584x2048_S128x2048_256_0)), ?_⟩
  refine List.forall_mem_cons.2 ⟨piece_rows 128 (by decide) inb_S3584x2048_S128x2048_128_0 _ _ (wa_1 x4 _ rfl x3 _ (ld_rows x3 128 (by decide) inb_S3584x2048_S128x2048_128_0)), ?_⟩
  refine List.forall_mem_cons.2 ⟨piece_rows 0 (by decide) inb_S3584x2048_S128x2048_0_0 _ _ (wa_0 x4 _ rfl x3 _ (ld_rows x3 0 (by decide) inb_S3584x2048_S128x2048_0_0)), ?_⟩
  exact fun p hp => absurd hp List.not_mem_nil

end Cert.KernelIdeal.Gen
-- ==== Proof.KHeads.lean ====
/-
  What the body computes of a block from the product: the normalised and rotated heads of the queries and the keys.
-/
module
public import proofs.«01_k».proof.Proof.Gen.KernelIdeal.Skeleton
public import proofs.«01_k».proof.Proof.Spec
@[expose] public section
set_option maxRecDepth 16384
noncomputable section
namespace Cert.KernelIdeal.Gen
open Idealize.ShloMosaic Cert.KernelIdeal Cert.Qkv

/-- The head of a block of rows that starts at column `o` of the product, normalised with the gain `w` and rotated by
    position times frequency: row `r`, column `d` of the head. -/
def headAt (p : FVec Ideal S256x2048 .f32) (pos : FVec Ideal S256x128 .f32) (fr : Vec Ideal S1x128 .f32) (w : Vec Ideal S1x256 .bf16)
    (o : ℕ) (ho : o + 256 ≤ 2048) (r d : Fin 256) : EReal :=
  rotOf (headOf (fun d => p (ix2 r ⟨o + d.val, by omega⟩)) (fun d => w (ix2 0 d))) (fun k => pos (ix2 r k) * fr (ix2 0 k)) d

/-- The columns of the heads from column `o` of the product on: column `y` is column `y % 256` of head `y / 256`. -/
def headsG (n : ℕ) (o : ℕ) (ho : o + n ≤ 2048) (hn : 256 ∣ n) (p : FVec Ideal S256x2048 .f32) (pos : FVec Ideal S256x128 .f32) (fr : Vec Ideal S1x128 .f32)
    (w : Vec Ideal S1x256 .bf16) : Vec Ideal ⟨2, ![256, n]⟩ .bf16 :=
  fun y => headAt p pos fr w (o + 256 * ((y 1).val / 256)) (by have : (y 1).val < n := (y 1).isLt; omega) (y 0)
    ⟨(y 1).val % 256, Nat.mod_lt _ (by decide)⟩

/-- The columns of head `H`. -/
theorem headsG_at (n : ℕ) (o : ℕ) (ho : o + n ≤ 2048) (hn : 256 ∣ n) (p : FVec Ideal S256x2048 .f32) (pos : FVec Ideal S256x128 .f32) (fr : Vec Ideal S1x128 .f32)
    (w : Vec Ideal S1x256 .bf16) (H : ℕ) (hH : 256 * H + 256 ≤ n) (r d : Fin 256) :
    headsG n o ho hn p pos fr w (ix2 r ⟨256 * H + d.val, by omega⟩) = headAt p pos fr w (o + 256 * H) (by omega) r d := by
  show headAt p pos fr w (o + 256 * ((256 * H + d.val) / 256)) _ r ⟨(256 * H + d.val) % 256, _⟩ = _
  have e : (256 * H + d.val) / 256 = H := by omega
  have e' : (⟨(256 * H + d.val) % 256, Nat.mod_lt _ (by decide)⟩ : Fin 256) = d := Fin.ext (by show (256 * H + d.val) % 256 = d.val; omega)
  simp only [e, e']

/-- The first half of a rotated head. -/
theorem rot_lo (n : Fin 256 → EReal) (ang : Fin 128 → EReal) (l : Fin 128) :
    rotOf n ang ⟨l.val, by omega⟩ = n ⟨l.val, by omega⟩ * Ideal.cos (ang l) - n ⟨128 + l.val, by omega⟩ * Ideal.sin (ang l) :=
  dif_pos l.isLt

/-- The second half of a rotated head. -/
theorem rot_hi (n : Fin 256 → EReal) (ang : Fin 128 → EReal) (l : Fin 128) :
    rotOf n ang ⟨128 + l.val, by omega⟩ = n ⟨128 + l.val, by omega⟩ * Ideal.cos (ang l) + n ⟨l.val, by omega⟩ * Ideal.sin (ang l) := by
  have h : ¬ (128 + l.val < 128) := by omega
  have e : (⟨128 + l.val - 128, by omega⟩ : Fin 128) = l := Fin.ext (by show 128 + l.val - 128 = l.val; omega)
  have e' : (⟨128 + l.val - 128, by omega⟩ : Fin 256) = ⟨l.val, by omega⟩ := Fin.ext (by show 128 + l.val - 128 = l.val; omega)
  unfold rotOf
  rw [dif_neg h]
  simp only [e, e']

/-- What the body stores in these 128 columns of the queries is that half of the rotated head. -/
theorem q_0 (p : FVec Ideal S256x2048 .f32) (pos : FVec Ideal S256x128 .f32) (fr : Vec Ideal S1x128 .f32) (w : Vec Ideal S1x256 .bf16) (r : Fin 256) (l : Fin 128) :
    (k0_pay138 p pos fr w : Vec Ideal S256x128 .bf16) (ix2 r l) = headsG 1024 0 (by decide) (by decide) p pos fr w (ix2 r ⟨0 + l.val, by omega⟩) := by
  have e : (⟨0 + l.val, by omega⟩ : Fin 1024) = ⟨256 * 0 + (⟨l.val, by omega⟩ : Fin 256).val, by show 256 * 0 + (l.val) < 1024; omega⟩ :=
    Fin.ext (by show 0 + l.val = 256 * 0 + (l.val); omega)
  rw [e, headsG_at _ _ _ _ _ _ _ _ 0 (by decide)]
  unfold headAt
  rw [rot_lo]
  unfold headOf normOf
  pointwise [k0_pay130, k0_pay131, k0_pay132, k0_pay133, k0_pay135, k0_pay136, k0_pay137, k0_pay138]

/-- What the body stores in these 128 columns of the queries is that half of the rotated head. -/
theorem q_1 (p : FVec Ideal S256x2048 .f32) (pos : FVec Ideal S256x128 .f32) (fr : Vec Ideal S1x128 .f32) (w : Vec Ideal S1x256 .bf16) (r : Fin 256) (l : Fin 128) :
    (k0_pay139 p pos fr w : Vec Ideal S256x128 .bf16) (ix2 r l) = headsG 1024 0 (by decide) (by decide) p pos fr w (ix2 r ⟨128 + l.val, by omega⟩) := by
  have e : (⟨128 + l.val, by omega⟩ : Fin 1024) = ⟨256 * 0 + (⟨128 + l.val, by omega⟩ : Fin 256).val, by show 256 * 0 + (128 + l.val) < 1024; omega⟩ :=
    Fin.ext (by show 128 + l.val = 256 * 0 + (128 + l.val); omega)
  rw [e, headsG_at _ _ _ _ _ _ _ _ 0 (by decide)]
  unfold headAt
  rw [rot_hi]
  unfold headOf normOf
  pointwise [k0_pay130, k0_pay131, k0_pay132, k0_pay133, k0_pay135, k0_pay136, k0_pay137, k0_pay139]

/-- What the body stores in these 128 columns of the queries is that half of the rotated head. -/
theorem q_2 (p : FVec Ideal S256x2048 .f32) (pos : FVec Ideal S256x128 .f32) (fr : Vec Ideal S1x128 .f32) (w : Vec Ideal S1x256 .bf16) (r : Fin 256) (l : Fin 128) :
    (k0_pay146 (k0_pay131 pos fr) (k0_pay132 pos fr) (k0_pay133 w) (k0_pay140 p) (k0_pay141 p) k0_pay142 : Vec Ideal S256x128 .bf16) (ix2 r l) = headsG 1024 0 (by decide) (by decide) p pos fr w (ix2 r ⟨256 + l.val, by omega⟩) := by
  have e : (⟨256 + l.val, by omega⟩ : Fin 1024) = ⟨256 * 1 + (⟨l.val, by omega⟩ : Fin 256).val, by show 256 * 1 + (l.val) < 1024; omega⟩ :=
    Fin.ext (by show 256 + l.val = 256 * 1 + (l.val); omega)
  rw [e, headsG_at _ _ _ _ _ _ _ _ 1 (by decide)]
  unfold headAt
  rw [rot_lo]
  unfold headOf normOf
  pointwise [k0_pay130, k0_pay131, k0_pay132, k0_pay133, k0_pay140, k0_pay141, k0_pay142, k0_pay143, k0_pay144, k0_pay145, k0_pay146]

/-- What the body stores in these 128 columns of the queries is that half of the rotated head. -/
theorem q_3 (p : FVec Ideal S256x2048 .f32) (pos : FVec Ideal S256x128 .f32) (fr : Vec Ideal S1x128 .f32) (w : Vec Ideal S1x256 .bf16) (r : Fin 256) (l : Fin 128) :
    (k0_pay147 (k0_pay131 pos fr) (k0_pay132 pos fr) (k0_pay133 w) (k0_pay140 p) (k0_pay141 p) k0_pay142 : Vec Ideal S256x128 .bf16) (ix2 r l) = headsG 1024 0 (by decide) (by decide) p pos fr w (ix2 r ⟨384 + l.val, by omega⟩) := by
  have e : (⟨384 + l.val, by omega⟩ : Fin 1024) = ⟨256 * 1 + (⟨128 + l.val, by omega⟩ : Fin 256).val, by show 256 * 1 + (128 + l.val) < 1024; omega⟩ :=
    Fin.ext (by show 384 + l.val = 256 * 1 + (128 + l.val); omega)
  rw [e, headsG_at _ _ _ _ _ _ _ _ 1 (by decide)]
  unfold headAt
  rw [rot_hi]
  unfold headOf normOf
  pointwise [k0_pay130, k0_pay131, k0_pay132, k0_pay133, k0_pay140, k0_pay141, k0_pay142, k0_pay143, k0_pay144, k0_pay145, k0_pay147]

/-- What the body stores in these 128 columns of the queries is that half of the rotated head. -/
theorem q_4 (p : FVec Ideal S256x2048 .f32) (pos : FVec Ideal S256x128 .f32) (fr : Vec Ideal S1x128 .f32) (w : Vec Ideal S1x256 .bf16) (r : Fin 256) (l : Fin 128) :
    (k0_pay151 p (k0_pay131 pos fr) (k0_pay132 pos fr) (k0_pay133 w) : Vec Ideal S256x128 .bf16) (ix2 r l) = headsG 1024 0 (by decide) (by decide) p pos fr w (ix2 r ⟨512 + l.val, by omega⟩) := by
  have e : (⟨512 + l.val, by omega⟩ : Fin 1024) = ⟨256 * 2 + (⟨l.val, by omega⟩ : Fin 256).val, by show 256 * 2 + (l.val) < 1024; omega⟩ :=
    Fin.ext (by show 512 + l.val = 256 * 2 + (l.val); omega)
  rw [e, headsG_at _ _ _ _ _ _ _ _ 2 (by decide)]
  unfold headAt
  rw [rot_lo]
  unfold headOf normOf
  pointwise [k0_pay130, k0_pay131, k0_pay132, k0_pay133, k0_pay148, k0_pay149, k0_pay150, k0_pay151]

/-- What the body stores in these 128 columns of the queries is that half of the rotated head. -/
theorem q_5 (p : FVec Ideal S256x2048 .f32) (pos : FVec Ideal S256x128 .f32) (fr : Vec Ideal S1x128 .f32) (w : Vec Ideal S1x256 .bf16) (r : Fin 256) (l : Fin 128) :
    (k0_pay152 p (k0_pay131 pos fr) (k0_pay132 pos fr) (k0_pay133 w) : Vec Ideal S256x128 .bf16) (ix2 r l) = headsG 1024 0 (by decide) (by decide) p pos fr w (ix2 r ⟨640 + l.val, by omega⟩) := by
  have e : (⟨640 + l.val, by omega⟩ : Fin 1024) = ⟨256 * 2 + (⟨128 + l.val, by omega⟩ : Fin 256).val, by show 256 * 2 + (128 + l.val) < 1024; omega⟩ :=
    Fin.ext (by show 640 + l.val = 256 * 2 + (128 + l.val); omega)
  rw [e, headsG_at _ _ _ _ _ _ _ _ 2 (by decide)]
  unfold headAt
  rw [rot_hi]
  unfold headOf normOf
  pointwise [k0_pay130, k0_pay131, k0_pay132, k0_pay133, k0_pay148, k0_pay149, k0_pay150, k0_pay152]

/-- What the body stores in these 128 columns of the queries is that half of the rotated head. -/
theorem q_6 (p : FVec Ideal S256x2048 .f32) (pos : FVec Ideal S256x128 .f32) (fr : Vec Ideal S1x128 .f32) (w : Vec Ideal S1x256 .bf16) (r : Fin 256) (l : Fin 128) :
    (k0_pay158 (k0_pay131 pos fr) (k0_pay132 pos fr) (k0_pay133 w) (k0_pay153 p) (k0_pay154 p) : Vec Ideal S256x128 .bf16) (ix2 r l) = headsG 1024 0 (by decide) (by decide) p pos fr w (ix2 r ⟨768 + l.val, by omega⟩) := by
  have e : (⟨768 + l.val, by omega⟩ : Fin 1024) = ⟨256 * 3 + (⟨l.val, by omega⟩ : Fin 256).val, by show 256 * 3 + (l.val) < 1024; omega⟩ :=
    Fin.ext (by show 768 + l.val = 256 * 3 + (l.val); omega)
  rw [e, headsG_at _ _ _ _ _ _ _ _ 3 (by decide)]
  unfold headAt
  rw [rot_lo]
  unfold headOf normOf
  pointwise [k0_pay130, k0_pay131, k0_pay132, k0_pay133, k0_pay153, k0_pay154, k0_pay155, k0_pay156, k0_pay157, k0_pay158]

/-- What the body stores in these 128 columns of the queries is that half of the rotated head. -/
theorem q_7 (p : FVec Ideal S256x2048 .f32) (pos : FVec Ideal S256x128 .f32) (fr : Vec Ideal S1x128 .f32) (w : Vec Ideal S1x256 .bf16) (r : Fin 256) (l : Fin 128) :
    (k0_pay159 (k0_pay131 pos fr) (k0_pay132 pos fr) (k0_pay133 w) (k0_pay153 p) (k0_pay154 p) : Vec Ideal S256x128 .bf16) (ix2 r l) = headsG 1024 0 (by decide) (by decide) p pos fr w (ix2 r ⟨896 + l.val, by omega⟩) := by
  have e : (⟨896 + l.val, by omega⟩ : Fin 1024) = ⟨256 * 3 + (⟨128 + l.val, by omega⟩ : Fin 256).val, by show 256 * 3 + (128 + l.val) < 1024; omega⟩ :=
    Fin.ext (by show 896 + l.val = 256 * 3 + (128 + l.val); omega)
  rw [e, headsG_at _ _ _ _ _ _ _ _ 3 (by decide)]
  unfold headAt
  rw [rot_hi]
  unfold headOf normOf
  pointwise [k0_pay130, k0_pay131, k0_pay132, k0_pay133, k0_pay153, k0_pay154, k0_pay155, k0_pay156, k0_pay157, k0_pay159]

/-- What the body stores in these 128 columns of the keys is that half of the rotated head. -/
theorem k_0 (p : FVec Ideal S256x2048 .f32) (pos : FVec Ideal S256x128 .f32) (fr : Vec Ideal S1x128 .f32) (w : Vec Ideal S1x256 .bf16) (r : Fin 256) (l : Fin 128) :
    (k0_pay164 p (k0_pay131 pos fr) (k0_pay132 pos fr) (k0_pay134 w) : Vec Ideal S256x128 .bf16) (ix2 r l) = headsG 512 1024 (by decide) (by decide) p pos fr w (ix2 r ⟨0 + l.val, by omega⟩) := by
  have e : (⟨0 + l.val, by omega⟩ : Fin 512) = ⟨256 * 0 + (⟨l.val, by omega⟩ : Fin 256).val, by show 256 * 0 + (l.val) < 512; omega⟩ :=
    Fin.ext (by show 0 + l.val = 256 * 0 + (l.val); omega)
  rw [e, headsG_at _ _ _ _ _ _ _ _ 0 (by decide)]
  unfold headAt
  rw [rot_lo]
  unfold headOf normOf
  pointwise [k0_pay130, k0_pay131, k0_pay132, k0_pay134, k0_pay160, k0_pay161, k0_pay162, k0_pay164]

/-- What the body stores in these 128 columns of the keys is that half of the rotated head. -/
theorem k_1 (p : FVec Ideal S256x2048 .f32) (pos : FVec Ideal S256x128 .f32) (fr : Vec Ideal S1x128 .f32) (w : Vec Ideal S1x256 .bf16) (r : Fin 256) (l : Fin 128) :
    (k0_pay165 (k0_pay163 p (k0_pay131 pos fr) (k0_pay132 pos fr) (k0_pay134 w)) : Vec Ideal S256x128 .bf16) (ix2 r l) = headsG 512 1024 (by decide) (by decide) p pos fr w (ix2 r ⟨128 + l.val, by omega⟩) := by
  have e : (⟨128 + l.val, by omega⟩ : Fin 512) = ⟨256 * 0 + (⟨128 + l.val, by omega⟩ : Fin 256).val, by show 256 * 0 + (128 + l.val) < 512; omega⟩ :=
    Fin.ext (by show 128 + l.val = 256 * 0 + (128 + l.val); omega)
  rw [e, headsG_at _ _ _ _ _ _ _ _ 0 (by decide)]
  unfold headAt
  rw [rot_hi]
  unfold headOf normOf
  pointwise [k0_pay130, k0_pay131, k0_pay132, k0_pay134, k0_pay160, k0_pay161, k0_pay162, k0_pay163, k0_pay165]

/-- What the body stores in these 128 columns of the keys is that half of the rotated head. -/
theorem k_2 (p : FVec Ideal S256x2048 .f32) (pos : FVec Ideal S256x128 .f32) (fr : Vec Ideal S1x128 .f32) (w : Vec Ideal S1x256 .bf16) (r : Fin 256) (l : Fin 128) :
    (k0_pay169 p (k0_pay131 pos fr) (k0_pay132 pos fr) (k0_pay134 w) : Vec Ideal S256x128 .bf16) (ix2 r l) = headsG 512 1024 (by decide) (by decide) p pos fr w (ix2 r ⟨256 + l.val, by omega⟩) := by
  have e : (⟨256 + l.val, by omega⟩ : Fin 512) = ⟨256 * 1 + (⟨l.val, by omega⟩ : Fin 256).val, by show 256 * 1 + (l.val) < 512; omega⟩ :=
    Fin.ext (by show 256 + l.val = 256 * 1 + (l.val); omega)
  rw [e, headsG_at _ _ _ _ _ _ _ _ 1 (by decide)]
  unfold headAt
  rw [rot_lo]
  unfold headOf normOf
  pointwise [k0_pay130, k0_pay131, k0_pay132, k0_pay134, k0_pay166, k0_pay167, k0_pay168, k0_pay169]

/-- What the body stores in these 128 columns of the keys is that half of the rotated head. -/
theorem k_3 (p : FVec Ideal S256x2048 .f32) (pos : FVec Ideal S256x128 .f32) (fr : Vec Ideal S1x128 .f32) (w : Vec Ideal S1x256 .bf16) (r : Fin 256) (l : Fin 128) :
    (k0_pay170 p (k0_pay131 pos fr) (k0_pay132 pos fr) (k0_pay134 w) : Vec Ideal S256x128 .bf16) (ix2 r l) = headsG 512 1024 (by decide) (by decide) p pos fr w (ix2 r ⟨384 + l.val, by omega⟩) := by
  have e : (⟨384 + l.val, by omega⟩ : Fin 512) = ⟨256 * 1 + (⟨128 + l.val, by omega⟩ : Fin 256).val, by show 256 * 1 + (128 + l.val) < 512; omega⟩ :=
    Fin.ext (by show 384 + l.val = 256 * 1 + (128 + l.val); omega)
  rw [e, headsG_at _ _ _ _ _ _ _ _ 1 (by decide)]
  unfold headAt
  rw [rot_hi]
  unfold headOf normOf
  pointwise [k0_pay130, k0_pay131, k0_pay132, k0_pay134, k0_pay166, k0_pay167, k0_pay168, k0_pay170]

/-- The columns of the values: the product's last 512 columns. -/
theorem v_at (p : FVec Ideal S256x2048 .f32) (r : Fin 256) (l : Fin 512) : k0_pay1 p (ix2 r l) = p (ix2 r ⟨1536 + l.val, by omega⟩) := by
  pointwise [k0_pay1]

/-- The product. -/
theorem proj_at (xa : Vec Ideal S256x3584 .bf16) (wa : Vec Ideal S3584x2048 .bf16) (r : Fin 256) (n : Fin 2048) :
    k0_pay128 xa wa (ix2 r n) = projOf (fun k => xa (ix2 r k)) (fun k n => wa (ix2 k n)) n := by
  unfold projOf
  pointwise [k0_pay128]

end Cert.KernelIdeal.Gen
-- ==== Proof.KOut.lean ====
module
public import proofs.«01_k».proof.Proof.KRun
public import proofs.«01_k».proof.Proof.KHeads
@[expose] public section
set_option maxRecDepth 16384
noncomputable section
namespace Cert.KernelIdeal.Gen
open Idealize.ShloMosaic Cert.KernelIdeal Cert.Qkv Idealize.ShloMosaic.Tactic

/-- The position word a grid point reads. -/
def posWord (i : grid0.Coords) (x0 : Vec Ideal S4 .i32) : BitVec 32 :=
  View.ld x0 (Rect.unit (s := S4) (k0_off1 i) S1.size (k0_off1_inb i)) (Shape.Idx.first (show 0 < S1.numel from numel1_S1 ▸ Nat.one_pos))

/-- The positions of a grid point's rows. -/
def posOf (i : grid0.Coords) (x0 : Vec Ideal S4 .i32) : FVec Ideal S256x128 .f32 := k0_pay129 (BitVec.ofNat 32 (i 0).val) (posWord i x0)

/-- The product of a block's dequantised activations with the dequantised weights `wa`. -/
def kproj (x1 : Vec Ideal S256x3584 .bf16) (x2 : Vec Ideal S1x3584 .bf16) (wa : Vec Ideal S3584x2048 .bf16) : FVec Ideal S256x2048 .f32 :=
  k0_pay128 (xaG (k0_pay36 x1 x2) (kscale x1 x2) (kinv x1 x2)) wa

/-- The product reads the activations that the body has just stored. -/
theorem loadA_xa (c : Dev nD) (arg2 : Memref sig .tc .vmem S256x3584 .bf16) (harg2 : arg2.IsWhole) (arg3 : Memref sig .tc .vmem S1x3584 .bf16) (harg3 : arg3.IsWhole)
    (x1 : Vec Ideal S256x3584 .bf16) (x2 : Vec Ideal S1x3584 .bf16) (arg15 : Memref sig .tc .vmem S256x3584 .bf16) :
    kernelRun0_A.sl.v873 c arg2 harg2 arg3 harg3 arg15 x1 x2 = xaG (k0_pay36 x1 x2) (kscale x1 x2) (kinv x1 x2) := by
  unfold kernelRun0_A.sl.v873
  rw [← xa_runA c arg2 harg2 arg3 harg3 x1 x2]
  unfold View.readCov
  rw [View.readAt_eq_ld, View.read_writes_junk_eq_canon]
  exact View.ld_unit_lit' _ _ (by decide)

/-- The product reads the weight that the first grid point has just stored. -/
theorem loadA_wa (c : Dev nD) (arg4 : Memref sig .tc .vmem S3584x2048 .fp8e4m3) (harg4 : arg4.IsWhole) (arg5 : Memref sig .tc .vmem S28x16 .f32) (harg5 : arg5.IsWhole)
    (x3 : Vec Ideal S3584x2048 .fp8e4m3) (x4 : Vec Ideal S28x16 .f32) (arg14 : Memref sig .tc .vmem S3584x2048 .bf16) :
    kernelRun0_A.sl.v874 c arg4 harg4 arg5 harg5 arg14 x3 x4 = waG x3 (k0_pay2 x4) := by
  unfold kernelRun0_A.sl.v874
  rw [← wa_run c arg4 harg4 arg5 harg5 x3 x4]
  unfold View.readCov
  rw [View.readAt_eq_ld, View.read_writes_junk_eq_canon]
  exact View.ld_unit_lit' _ _ (by decide)

/-- The product, by its name. -/
theorem nameA_35 (c : Dev nD) (arg2 : Memref sig .tc .vmem S256x3584 .bf16) (harg2 : arg2.IsWhole) (arg3 : Memref sig .tc .vmem S1x3584 .bf16) (harg3 : arg3.IsWhole) (arg4 : Memref sig .tc .vmem S3584x2048 .fp8e4m3) (harg4 : arg4.IsWhole) (arg5 : Memref sig .tc .vmem S28x16 .f32) (harg5 : arg5.IsWhole) (arg14 : Memref sig .tc .vmem S3584x2048 .bf16) (arg15 : Memref sig .tc .vmem S256x3584 .bf16) (x1 : Vec Ideal S256x3584 .bf16) (x2 : Vec Ideal S1x3584 .bf16) (x3 : Vec Ideal S3584x2048 .fp8e4m3) (x4 : Vec Ideal S28x16 .f32) :
    kernelRun0_A.sl.r_42 c arg2 harg2 arg3 harg3 arg4 harg4 arg5 harg5 arg14 arg15 x1 x2 x3 x4 = kproj x1 x2 (waG x3 (k0_pay2 x4)) := by
  unfold kernelRun0_A.sl.r_42 kproj
  rw [loadA_xa]
  rw [loadA_wa]

/-- The positions of the rows, by their name. -/
theorem nameA_36 (c : Dev nD) (i : grid0.Coords) (arg1 : Memref sig .tc .smem S4 .i32) (harg1 : arg1.IsWhole) (x0 : Vec Ideal S4 .i32) :
    kernelRun0_A.sl.r_43 c i arg1 harg1 x0 = posOf i x0 := by
  unfold kernelRun0_A.sl.r_43 kernelRun0_A.sl.r_41 posOf posWord
  simp only [View.readAt_eq_ld, Memref.IsWhole.read_unread]

/-- The cosines of the angles, by their name. -/
theorem nameA_37 (c : Dev nD) (i : grid0.Coords) (arg1 : Memref sig .tc .smem S4 .i32) (harg1 : arg1.IsWhole) (arg8 : Memref sig .tc .vmem S1x128 .f32) (harg8 : arg8.IsWhole) (x0 : Vec Ideal S4 .i32) (x7 : Vec Ideal S1x128 .f32) :
    kernelRun0_A.sl.r_44 c i arg1 harg1 arg8 harg8 x0 x7 = k0_pay131 (posOf i x0) x7 := by
  unfold kernelRun0_A.sl.r_44
  simp (disch := decide) only [nameA_36, View.readAt_eq_ld, Memref.IsWhole.read_unread, View.ld_unit_lit']

/-- The sines of the angles, by their name. -/
theorem nameA_38 (c : Dev nD) (i : grid0.Coords) (arg1 : Memref sig .tc .smem S4 .i32) (harg1 : arg1.IsWhole) (arg8 : Memref sig .tc .vmem S1x128 .f32) (harg8 : arg8.IsWhole) (x0 : Vec Ideal S4 .i32) (x7 : Vec Ideal S1x128 .f32) :
    kernelRun0_A.sl.r_45 c i arg1 harg1 arg8 harg8 x0 x7 = k0_pay132 (posOf i x0) x7 := by
  unfold kernelRun0_A.sl.r_45
  simp (disch := decide) only [nameA_36, View.readAt_eq_ld, Memref.IsWhole.read_unread, View.ld_unit_lit']

/-- The gain of the queries, by its name. -/
theorem nameA_39 (c : Dev nD) (arg6 : Memref sig .tc .vmem S1x256 .bf16) (harg6 : arg6.IsWhole) (x5 : Vec Ideal S1x256 .bf16) :
    kernelRun0_A.sl.r_46 c arg6 harg6 x5 = k0_pay133 x5 := by
  frame_out

/-- The gain of the keys, by its name. -/
theorem nameA_40 (c : Dev nD) (arg7 : Memref sig .tc .vmem S1x256 .bf16) (harg7 : arg7.IsWhole) (x6 : Vec Ideal S1x256 .bf16) :
    kernelRun0_A.sl.r_47 c arg7 harg7 x6 = k0_pay134 x6 := by
  frame_out

/-- The queries the first grid point leaves. -/
theorem q_runA (c : Dev nD) (i : grid0.Coords) (arg1 : Memref sig .tc .smem S4 .i32) (harg1 : arg1.IsWhole) (arg2 : Memref sig .tc .vmem S256x3584 .bf16) (harg2 : arg2.IsWhole) (arg3 : Memref sig .tc .vmem S1x3584 .bf16) (harg3 : arg3.IsWhole) (arg4 : Memref sig .tc .vmem S3584x2048 .fp8e4m3) (harg4 : arg4.IsWhole) (arg5 : Memref sig .tc .vmem S28x16 .f32) (harg5 : arg5.IsWhole) (arg6 : Memref sig .tc .vmem S1x256 .bf16) (harg6 : arg6.IsWhole) (arg7 : Memref sig .tc .vmem S1x256 .bf16) (harg7 : arg7.IsWhole) (arg8 : Memref sig .tc .vmem S1x128 .f32) (harg8 : arg8.IsWhole) (arg9 : Memref sig .tc .vmem S256x1024 .bf16) (harg9 : arg9.IsWhole) (arg10 : Memref sig .tc .vmem S256x512 .bf16) (harg10 : arg10.IsWhole) (arg11 : Memref sig .tc .vmem S256x512 .bf16) (harg11 : arg11.IsWhole) (arg12 : Memref sig .tc .vmem S256x3584 .fp8e4m3) (harg12 : arg12.IsWhole) (arg13 : Memref sig .tc .vmem S256x28 .f32) (harg13 : arg13.IsWhole) (arg14 : Memref sig .tc .vmem S3584x2048 .bf16) (harg14 : arg14.IsWhole) (arg15 : Memref sig .tc .vmem S256x3584 .bf16) (harg15 : arg15.IsWhole) (hc0 : cond0_0 i)
    (x0 : Vec Ideal S4 .i32) (x1 : Vec Ideal S256x3584 .bf16) (x2 : Vec Ideal S1x3584 .bf16) (x3 : Vec Ideal S3584x2048 .fp8e4m3) (x4 : Vec Ideal S28x16 .f32) (x5 : Vec Ideal S1x256 .bf16) (x6 : Vec Ideal S1x256 .bf16) (x7 : Vec Ideal S1x128 .f32) :
    View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).1 = headsG 1024 0 (by decide) (by decide) (kproj x1 x2 (waG x3 (k0_pay2 x4))) (posOf i x0) x7 x5 := by
  funext y
  refine View.canon_apply_of_pieces _ _ ?_ y (cover0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 y)
  unfold kernelRun0_A
  dsimp only
  simp (disch := decide) only [kernelRun0_A.sl.r_48, kernelRun0_A.sl.r_49, kernelRun0_A.sl.r_50, kernelRun0_A.sl.r_51, kernelRun0_A.sl.r_52, kernelRun0_A.sl.r_53, kernelRun0_A.sl.r_54, nameA_35, nameA_36, nameA_37, nameA_38, nameA_39, nameA_40, View.readAt_eq_ld, Memref.IsWhole.read_unread, View.ld_unit_lit']
  refine List.forall_mem_cons.2 ⟨piece_lanes 896 (by decide) inb_S256x1024_S256x128_0_896 _ _ (q_7 _ _ _ _), ?_⟩
  refine List.forall_mem_cons.2 ⟨piece_lanes 768 (by decide) inb_S256x1024_S256x128_0_768 _ _ (q_6 _ _ _ _), ?_⟩
  refine List.forall_mem_cons.2 ⟨piece_lanes 640 (by decide) inb_S256x1024_S256x128_0_640 _ _ (q_5 _ _ _ _), ?_⟩
  refine List.forall_mem_cons.2 ⟨piece_lanes 512 (by decide) inb_S256x1024_S256x128_0_512 _ _ (q_4 _ _ _ _), ?_⟩
  refine List.forall_mem_cons.2 ⟨piece_lanes 384 (by decide) inb_S256x1024_S256x128_0_384 _ _ (q_3 _ _ _ _), ?_⟩
  refine List.forall_mem_cons.2 ⟨piece_lanes 256 (by decide) inb_S256x1024_S256x128_0_256 _ _ (q_2 _ _ _ _), ?_⟩
  refine List.forall_mem_cons.2 ⟨piece_lanes 128 (by decide) inb_S256x1024_S256x128_0_128 _ _ (q_1 _ _ _ _), ?_⟩
  refine List.forall_mem_cons.2 ⟨piece_lanes 0 (by decide) inb_S256x1024_S256x128_0_0 _ _ (q_0 _ _ _ _), ?_⟩
  exact fun p hp => absurd hp List.not_mem_nil

/-- The keys the first grid point leaves. -/
theorem k_runA (c : Dev nD) (i : grid0.Coords) (arg1 : Memref sig .tc .smem S4 .i32) (harg1 : arg1.IsWhole) (arg2 : Memref sig .tc .vmem S256x3584 .bf16) (harg2 : arg2.IsWhole) (arg3 : Memref sig .tc .vmem S1x3584 .bf16) (harg3 : arg3.IsWhole) (arg4 : Memref sig .tc .vmem S3584x2048 .fp8e4m3) (harg4 : arg4.IsWhole) (arg5 : Memref sig .tc .vmem S28x16 .f32) (harg5 : arg5.IsWhole) (arg6 : Memref sig .tc .vmem S1x256 .bf16) (harg6 : arg6.IsWhole) (arg7 : Memref sig .tc .vmem S1x256 .bf16) (harg7 : arg7.IsWhole) (arg8 : Memref sig .tc .vmem S1x128 .f32) (harg8 : arg8.IsWhole) (arg9 : Memref sig .tc .vmem S256x1024 .bf16) (harg9 : arg9.IsWhole) (arg10 : Memref sig .tc .vmem S256x512 .bf16) (harg10 : arg10.IsWhole) (arg11 : Memref sig .tc .vmem S256x512 .bf16) (harg11 : arg11.IsWhole) (arg12 : Memref sig .tc .vmem S256x3584 .fp8e4m3) (harg12 : arg12.IsWhole) (arg13 : Memref sig .tc .vmem S256x28 .f32) (harg13 : arg13.IsWhole) (arg14 : Memref sig .tc .vmem S3584x2048 .bf16) (harg14 : arg14.IsWhole) (arg15 : Memref sig .tc .vmem S256x3584 .bf16) (harg15 : arg15.IsWhole) (hc0 : cond0_0 i)
    (x0 : Vec Ideal S4 .i32) (x1 : Vec Ideal S256x3584 .bf16) (x2 : Vec Ideal S1x3584 .bf16) (x3 : Vec Ideal S3584x2048 .fp8e4m3) (x4 : Vec Ideal S28x16 .f32) (x5 : Vec Ideal S1x256 .bf16) (x6 : Vec Ideal S1x256 .bf16) (x7 : Vec Ideal S1x128 .f32) :
    View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.1 = headsG 512 1024 (by decide) (by decide) (kproj x1 x2 (waG x3 (k0_pay2 x4))) (posOf i x0) x7 x6 := by
  funext y
  refine View.canon_apply_of_pieces _ _ ?_ y (cover0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 y)
  unfold kernelRun0_A
  dsimp only
  simp (disch := decide) only [kernelRun0_A.sl.r_48, kernelRun0_A.sl.r_49, kernelRun0_A.sl.r_50, kernelRun0_A.sl.r_51, kernelRun0_A.sl.r_52, kernelRun0_A.sl.r_53, kernelRun0_A.sl.r_54, nameA_35, nameA_36, nameA_37, nameA_38, nameA_39, nameA_40, View.readAt_eq_ld, Memref.IsWhole.read_unread, View.ld_unit_lit']
  refine List.forall_mem_cons.2 ⟨piece_lanes 384 (by decide) inb_S256x512_S256x128_0_384 _ _ (k_3 _ _ _ _), ?_⟩
  refine List.forall_mem_cons.2 ⟨piece_lanes 256 (by decide) inb_S256x512_S256x128_0_256 _ _ (k_2 _ _ _ _), ?_⟩
  refine List.forall_mem_cons.2 ⟨piece_lanes 128 (by decide) inb_S256x512_S256x128_0_128 _ _ (k_1 _ _ _ _), ?_⟩
  refine List.forall_mem_cons.2 ⟨piece_lanes 0 (by decide) inb_S256x512_S256x128_0_0 _ _ (k_0 _ _ _ _), ?_⟩
  exact fun p hp => absurd hp List.not_mem_nil

/-- The values the first grid point leaves. -/
theorem v_runA (c : Dev nD) (i : grid0.Coords) (arg1 : Memref sig .tc .smem S4 .i32) (harg1 : arg1.IsWhole) (arg2 : Memref sig .tc .vmem S256x3584 .bf16) (harg2 : arg2.IsWhole) (arg3 : Memref sig .tc .vmem S1x3584 .bf16) (harg3 : arg3.IsWhole) (arg4 : Memref sig .tc .vmem S3584x2048 .fp8e4m3) (harg4 : arg4.IsWhole) (arg5 : Memref sig .tc .vmem S28x16 .f32) (harg5 : arg5.IsWhole) (arg6 : Memref sig .tc .vmem S1x256 .bf16) (harg6 : arg6.IsWhole) (arg7 : Memref sig .tc .vmem S1x256 .bf16) (harg7 : arg7.IsWhole) (arg8 : Memref sig .tc .vmem S1x128 .f32) (harg8 : arg8.IsWhole) (arg9 : Memref sig .tc .vmem S256x1024 .bf16) (harg9 : arg9.IsWhole) (arg10 : Memref sig .tc .vmem S256x512 .bf16) (harg10 : arg10.IsWhole) (arg11 : Memref sig .tc .vmem S256x512 .bf16) (harg11 : arg11.IsWhole) (arg12 : Memref sig .tc .vmem S256x3584 .fp8e4m3) (harg12 : arg12.IsWhole) (arg13 : Memref sig .tc .vmem S256x28 .f32) (harg13 : arg13.IsWhole) (arg14 : Memref sig .tc .vmem S3584x2048 .bf16) (harg14 : arg14.IsWhole) (arg15 : Memref sig .tc .vmem S256x3584 .bf16) (harg15 : arg15.IsWhole) (hc0 : cond0_0 i)
    (x0 : Vec Ideal S4 .i32) (x1 : Vec Ideal S256x3584 .bf16) (x2 : Vec Ideal S1x3584 .bf16) (x3 : Vec Ideal S3584x2048 .fp8e4m3) (x4 : Vec Ideal S28x16 .f32) (x5 : Vec Ideal S1x256 .bf16) (x6 : Vec Ideal S1x256 .bf16) (x7 : Vec Ideal S1x128 .f32) :
    View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.1 = k0_pay1 (kproj x1 x2 (waG x3 (k0_pay2 x4))) := by
  unfold kernelRun0_A
  dsimp only
  rw [nameA_35]
  exact View.canon_cons_unit_lit' (S := S256x512) _ _ _ (by decide)

/-- The product reads the activations that the body has just stored. -/
theorem loadB_xa (c : Dev nD) (arg2 : Memref sig .tc .vmem S256x3584 .bf16) (harg2 : arg2.IsWhole) (arg3 : Memref sig .tc .vmem S1x3584 .bf16) (harg3 : arg3.IsWhole)
    (x1 : Vec Ideal S256x3584 .bf16) (x2 : Vec Ideal S1x3584 .bf16) (arg15 : Memref sig .tc .vmem S256x3584 .bf16) :
    kernelRun0_B.sl.v873 c arg2 harg2 arg3 harg3 arg15 x1 x2 = xaG (k0_pay36 x1 x2) (kscale x1 x2) (kinv x1 x2) := by
  unfold kernelRun0_B.sl.v873
  rw [← xa_runB c arg2 harg2 arg3 harg3 x1 x2]
  unfold View.readCov
  rw [View.readAt_eq_ld, View.read_writes_junk_eq_canon]
  exact View.ld_unit_lit' _ _ (by decide)

/-- The product, by its name. -/
theorem nameB_35 (c : Dev nD) (arg2 : Memref sig .tc .vmem S256x3584 .bf16) (harg2 : arg2.IsWhole) (arg3 : Memref sig .tc .vmem S1x3584 .bf16) (harg3 : arg3.IsWhole) (arg14 : Memref sig .tc .vmem S3584x2048 .bf16) (harg14 : arg14.IsWhole) (arg15 : Memref sig .tc .vmem S256x3584 .bf16) (x1 : Vec Ideal S256x3584 .bf16) (x2 : Vec Ideal S1x3584 .bf16) (xs0 : Vec Ideal S3584x2048 .bf16) :
    kernelRun0_B.sl.r_35 c arg2 harg2 arg3 harg3 arg14 harg14 arg15 x1 x2 xs0 = kproj x1 x2 xs0 := by
  unfold kernelRun0_B.sl.r_35 kproj
  rw [loadB_xa]
  simp (disch := decide) only [View.readAt_eq_ld, Memref.IsWhole.read_unread, View.ld_unit_lit']

/-- The positions of the rows, by their name. -/
theorem nameB_36 (c : Dev nD) (i : grid0.Coords) (arg1 : Memref sig .tc .smem S4 .i32) (harg1 : arg1.IsWhole) (x0 : Vec Ideal S4 .i32) :
    kernelRun0_B.sl.r_36 c i arg1 harg1 x0 = posOf i x0 := by
  unfold kernelRun0_B.sl.r_36 kernelRun0_B.sl.r_34 posOf posWord
  simp only [View.readAt_eq_ld, Memref.IsWhole.read_unread]

/-- The cosines of the angles, by their name. -/
theorem nameB_37 (c : Dev nD) (i : grid0.Coords) (arg1 : Memref sig .tc .smem S4 .i32) (harg1 : arg1.IsWhole) (arg8 : Memref sig .tc .vmem S1x128 .f32) (harg8 : arg8.IsWhole) (x0 : Vec Ideal S4 .i32) (x7 : Vec Ideal S1x128 .f32) :
    kernelRun0_B.sl.r_37 c i arg1 harg1 arg8 harg8 x0 x7 = k0_pay131 (posOf i x0) x7 := by
  unfold kernelRun0_B.sl.r_37
  simp (disch := decide) only [nameB_36, View.readAt_eq_ld, Memref.IsWhole.read_unread, View.ld_unit_lit']

/-- The sines of the angles, by their name. -/
theorem nameB_38 (c : Dev nD) (i : grid0.Coords) (arg1 : Memref sig .tc .smem S4 .i32) (harg1 : arg1.IsWhole) (arg8 : Memref sig .tc .vmem S1x128 .f32) (harg8 : arg8.IsWhole) (x0 : Vec Ideal S4 .i32) (x7 : Vec Ideal S1x128 .f32) :
    kernelRun0_B.sl.r_38 c i arg1 harg1 arg8 harg8 x0 x7 = k0_pay132 (posOf i x0) x7 := by
  unfold kernelRun0_B.sl.r_38
  simp (disch := decide) only [nameB_36, View.readAt_eq_ld, Memref.IsWhole.read_unread, View.ld_unit_lit']

/-- The gain of the queries, by its name. -/
theorem nameB_39 (c : Dev nD) (arg6 : Memref sig .tc .vmem S1x256 .bf16) (harg6 : arg6.IsWhole) (x5 : Vec Ideal S1x256 .bf16) :
    kernelRun0_B.sl.r_39 c arg6 harg6 x5 = k0_pay133 x5 := by
  frame_out

/-- The gain of the keys, by its name. -/
theorem nameB_40 (c : Dev nD) (arg7 : Memref sig .tc .vmem S1x256 .bf16) (harg7 : arg7.IsWhole) (x6 : Vec Ideal S1x256 .bf16) :
    kernelRun0_B.sl.r_40 c arg7 harg7 x6 = k0_pay134 x6 := by
  frame_out

/-- The queries a later grid point leaves. -/
theorem q_runB (c : Dev nD) (i : grid0.Coords) (arg1 : Memref sig .tc .smem S4 .i32) (harg1 : arg1.IsWhole) (arg2 : Memref sig .tc .vmem S256x3584 .bf16) (harg2 : arg2.IsWhole) (arg3 : Memref sig .tc .vmem S1x3584 .bf16) (harg3 : arg3.IsWhole) (arg4 : Memref sig .tc .vmem S3584x2048 .fp8e4m3) (harg4 : arg4.IsWhole) (arg5 : Memref sig .tc .vmem S28x16 .f32) (harg5 : arg5.IsWhole) (arg6 : Memref sig .tc .vmem S1x256 .bf16) (harg6 : arg6.IsWhole) (arg7 : Memref sig .tc .vmem S1x256 .bf16) (harg7 : arg7.IsWhole) (arg8 : Memref sig .tc .vmem S1x128 .f32) (harg8 : arg8.IsWhole) (arg9 : Memref sig .tc .vmem S256x1024 .bf16) (harg9 : arg9.IsWhole) (arg10 : Memref sig .tc .vmem S256x512 .bf16) (harg10 : arg10.IsWhole) (arg11 : Memref sig .tc .vmem S256x512 .bf16) (harg11 : arg11.IsWhole) (arg12 : Memref sig .tc .vmem S256x3584 .fp8e4m3) (harg12 : arg12.IsWhole) (arg13 : Memref sig .tc .vmem S256x28 .f32) (harg13 : arg13.IsWhole) (arg14 : Memref sig .tc .vmem S3584x2048 .bf16) (harg14 : arg14.IsWhole) (arg15 : Memref sig .tc .vmem S256x3584 .bf16) (harg15 : arg15.IsWhole) (hc0 : ¬cond0_0 i)
    (x0 : Vec Ideal S4 .i32) (x1 : Vec Ideal S256x3584 .bf16) (x2 : Vec Ideal S1x3584 .bf16) (x3 : Vec Ideal S3584x2048 .fp8e4m3) (x4 : Vec Ideal S28x16 .f32) (x5 : Vec Ideal S1x256 .bf16) (x6 : Vec Ideal S1x256 .bf16) (x7 : Vec Ideal S1x128 .f32) (xs0 : Vec Ideal S3584x2048 .bf16) :
    View.canon (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).1 = headsG 1024 0 (by decide) (by decide) (kproj x1 x2 xs0) (posOf i x0) x7 x5 := by
  funext y
  refine View.canon_apply_of_pieces _ _ ?_ y (cover0_B_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 y)
  unfold kernelRun0_B
  dsimp only
  simp (disch := decide) only [kernelRun0_B.sl.r_41, kernelRun0_B.sl.r_42, kernelRun0_B.sl.r_43, kernelRun0_B.sl.r_44, kernelRun0_B.sl.r_45, kernelRun0_B.sl.r_46, kernelRun0_B.sl.r_47, nameB_35, nameB_36, nameB_37, nameB_38, nameB_39, nameB_40, View.readAt_eq_ld, Memref.IsWhole.read_unread, View.ld_unit_lit']
  refine List.forall_mem_cons.2 ⟨piece_lanes 896 (by decide) inb_S256x1024_S256x128_0_896 _ _ (q_7 _ _ _ _), ?_⟩
  refine List.forall_mem_cons.2 ⟨piece_lanes 768 (by decide) inb_S256x1024_S256x128_0_768 _ _ (q_6 _ _ _ _), ?_⟩
  refine List.forall_mem_cons.2 ⟨piece_lanes 640 (by decide) inb_S256x1024_S256x128_0_640 _ _ (q_5 _ _ _ _), ?_⟩
  refine List.forall_mem_cons.2 ⟨piece_lanes 512 (by decide) inb_S256x1024_S256x128_0_512 _ _ (q_4 _ _ _ _), ?_⟩
  refine List.forall_mem_cons.2 ⟨piece_lanes 384 (by decide) inb_S256x1024_S256x128_0_384 _ _ (q_3 _ _ _ _), ?_⟩
  refine List.forall_mem_cons.2 ⟨piece_lanes 256 (by decide) inb_S256x1024_S256x128_0_256 _ _ (q_2 _ _ _ _), ?_⟩
  refine List.forall_mem_cons.2 ⟨piece_lanes 128 (by decide) inb_S256x1024_S256x128_0_128 _ _ (q_1 _ _ _ _), ?_⟩
  refine List.forall_mem_cons.2 ⟨piece_lanes 0 (by decide) inb_S256x1024_S256x128_0_0 _ _ (q_0 _ _ _ _), ?_⟩
  exact fun p hp => absurd hp List.not_mem_nil

/-- The keys a later grid point leaves. -/
theorem k_runB (c : Dev nD) (i : grid0.Coords) (arg1 : Memref sig .tc .smem S4 .i32) (harg1 : arg1.IsWhole) (arg2 : Memref sig .tc .vmem S256x3584 .bf16) (harg2 : arg2.IsWhole) (arg3 : Memref sig .tc .vmem S1x3584 .bf16) (harg3 : arg3.IsWhole) (arg4 : Memref sig .tc .vmem S3584x2048 .fp8e4m3) (harg4 : arg4.IsWhole) (arg5 : Memref sig .tc .vmem S28x16 .f32) (harg5 : arg5.IsWhole) (arg6 : Memref sig .tc .vmem S1x256 .bf16) (harg6 : arg6.IsWhole) (arg7 : Memref sig .tc .vmem S1x256 .bf16) (harg7 : arg7.IsWhole) (arg8 : Memref sig .tc .vmem S1x128 .f32) (harg8 : arg8.IsWhole) (arg9 : Memref sig .tc .vmem S256x1024 .bf16) (harg9 : arg9.IsWhole) (arg10 : Memref sig .tc .vmem S256x512 .bf16) (harg10 : arg10.IsWhole) (arg11 : Memref sig .tc .vmem S256x512 .bf16) (harg11 : arg11.IsWhole) (arg12 : Memref sig .tc .vmem S256x3584 .fp8e4m3) (harg12 : arg12.IsWhole) (arg13 : Memref sig .tc .vmem S256x28 .f32) (harg13 : arg13.IsWhole) (arg14 : Memref sig .tc .vmem S3584x2048 .bf16) (harg14 : arg14.IsWhole) (arg15 : Memref sig .tc .vmem S256x3584 .bf16) (harg15 : arg15.IsWhole) (hc0 : ¬cond0_0 i)
    (x0 : Vec Ideal S4 .i32) (x1 : Vec Ideal S256x3584 .bf16) (x2 : Vec Ideal S1x3584 .bf16) (x3 : Vec Ideal S3584x2048 .fp8e4m3) (x4 : Vec Ideal S28x16 .f32) (x5 : Vec Ideal S1x256 .bf16) (x6 : Vec Ideal S1x256 .bf16) (x7 : Vec Ideal S1x128 .f32) (xs0 : Vec Ideal S3584x2048 .bf16) :
    View.canon (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.1 = headsG 512 1024 (by decide) (by decide) (kproj x1 x2 xs0) (posOf i x0) x7 x6 := by
  funext y
  refine View.canon_apply_of_pieces _ _ ?_ y (cover0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 y)
  unfold kernelRun0_B
  dsimp only
  simp (disch := decide) only [kernelRun0_B.sl.r_41, kernelRun0_B.sl.r_42, kernelRun0_B.sl.r_43, kernelRun0_B.sl.r_44, kernelRun0_B.sl.r_45, kernelRun0_B.sl.r_46, kernelRun0_B.sl.r_47, nameB_35, nameB_36, nameB_37, nameB_38, nameB_39, nameB_40, View.readAt_eq_ld, Memref.IsWhole.read_unread, View.ld_unit_lit']
  refine List.forall_mem_cons.2 ⟨piece_lanes 384 (by decide) inb_S256x512_S256x128_0_384 _ _ (k_3 _ _ _ _), ?_⟩
  refine List.forall_mem_cons.2 ⟨piece_lanes 256 (by decide) inb_S256x512_S256x128_0_256 _ _ (k_2 _ _ _ _), ?_⟩
  refine List.forall_mem_cons.2 ⟨piece_lanes 128 (by decide) inb_S256x512_S256x128_0_128 _ _ (k_1 _ _ _ _), ?_⟩
  refine List.forall_mem_cons.2 ⟨piece_lanes 0 (by decide) inb_S256x512_S256x128_0_0 _ _ (k_0 _ _ _ _), ?_⟩
  exact fun p hp => absurd hp List.not_mem_nil

/-- The values a later grid point leaves. -/
theorem v_runB (c : Dev nD) (i : grid0.Coords) (arg1 : Memref sig .tc .smem S4 .i32) (harg1 : arg1.IsWhole) (arg2 : Memref sig .tc .vmem S256x3584 .bf16) (harg2 : arg2.IsWhole) (arg3 : Memref sig .tc .vmem S1x3584 .bf16) (harg3 : arg3.IsWhole) (arg4 : Memref sig .tc .vmem S3584x2048 .fp8e4m3) (harg4 : arg4.IsWhole) (arg5 : Memref sig .tc .vmem S28x16 .f32) (harg5 : arg5.IsWhole) (arg6 : Memref sig .tc .vmem S1x256 .bf16) (harg6 : arg6.IsWhole) (arg7 : Memref sig .tc .vmem S1x256 .bf16) (harg7 : arg7.IsWhole) (arg8 : Memref sig .tc .vmem S1x128 .f32) (harg8 : arg8.IsWhole) (arg9 : Memref sig .tc .vmem S256x1024 .bf16) (harg9 : arg9.IsWhole) (arg10 : Memref sig .tc .vmem S256x512 .bf16) (harg10 : arg10.IsWhole) (arg11 : Memref sig .tc .vmem S256x512 .bf16) (harg11 : arg11.IsWhole) (arg12 : Memref sig .tc .vmem S256x3584 .fp8e4m3) (harg12 : arg12.IsWhole) (arg13 : Memref sig .tc .vmem S256x28 .f32) (harg13 : arg13.IsWhole) (arg14 : Memref sig .tc .vmem S3584x2048 .bf16) (harg14 : arg14.IsWhole) (arg15 : Memref sig .tc .vmem S256x3584 .bf16) (harg15 : arg15.IsWhole) (hc0 : ¬cond0_0 i)
    (x0 : Vec Ideal S4 .i32) (x1 : Vec Ideal S256x3584 .bf16) (x2 : Vec Ideal S1x3584 .bf16) (x3 : Vec Ideal S3584x2048 .fp8e4m3) (x4 : Vec Ideal S28x16 .f32) (x5 : Vec Ideal S1x256 .bf16) (x6 : Vec Ideal S1x256 .bf16) (x7 : Vec Ideal S1x128 .f32) (xs0 : Vec Ideal S3584x2048 .bf16) :
    View.canon (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.2.1 = k0_pay1 (kproj x1 x2 xs0) := by
  unfold kernelRun0_B
  dsimp only
  rw [nameB_35]
  exact View.canon_cons_unit_lit' (S := S256x512) _ _ _ (by decide)

end Cert.KernelIdeal.Gen
-- ==== Proof.KWords.lean ====
/-
  The integer arithmetic of the body: the spread of the weight scales over the columns, and the positions of a block's rows.
-/
module
public import proofs.«01_k».proof.Proof.KOut
@[expose] public section
set_option maxRecDepth 16384
noncomputable section
namespace Cert.KernelIdeal.Gen
open Idealize.ShloMosaic Cert.KernelIdeal Cert.Qkv

/-- The block of a column, as the body computes it. -/
def blockWord (w : BitVec 32) : BitVec 32 :=
  Scalar.select
    (IntOp.andi
      (IntOp.cmpi CmpIPredicate.ne
        (IntOp.subi (BitVec.setWidth 32 (IntOp.cmpi CmpIPredicate.sgt w 0#32)) (BitVec.setWidth 32 (IntOp.cmpi CmpIPredicate.slt w 0#32)))
        (Scalar.subi (Scalar.extui (Scalar.cmpi CmpIPredicate.sgt 128#32 0#32)) (Scalar.extui (Scalar.cmpi CmpIPredicate.slt 128#32 0#32))))
      (IntOp.cmpi CmpIPredicate.ne (IntOp.remsi ArithUnit.vector w 128#32) 0#32))
    (IntOp.subi (IntOp.divsi ArithUnit.vector w 128#32) 1#32)
    (IntOp.divsi ArithUnit.vector w 128#32)

/-- It is the column over 128. -/
theorem blockWord_eq : ∀ n : Fin 2048, blockWord (BitVec.ofNat 32 n.val) = BitVec.ofNat 32 (n.val / 128) := by
  decide +kernel

/-- An entry of the table that marks each column's block. -/
theorem mark_eq (a b : ℕ) (ha : a < 16) (hb : b < 16) :
    FloatOps.sitofp (F := Ideal) FTy.f32 (BitVec.setWidth 32 (IntOp.cmpi CmpIPredicate.eq (BitVec.ofNat 32 a) (BitVec.ofNat 32 b)))
      = if a = b then 1 else 0 := by
  have h : (BitVec.ofNat 32 a = BitVec.ofNat 32 b) ↔ a = b := by
    rw [← BitVec.toNat_inj, BitVec.toNat_ofNat, BitVec.toNat_ofNat, Nat.mod_eq_of_lt (by omega), Nat.mod_eq_of_lt (by omega)]
  show (((BitVec.setWidth 32 (BitVec.ofBool (BitVec.ofNat 32 a == BitVec.ofNat 32 b))).toInt : ℝ) : EReal) = _
  by_cases hab : a = b
  · rw [if_pos hab, beq_iff_eq.2 (h.2 hab), show (BitVec.setWidth 32 (BitVec.ofBool true)).toInt = 1 by decide]; norm_num
  · rw [if_neg hab, beq_eq_false_iff_ne.2 fun e => hab (h.1 e), show (BitVec.setWidth 32 (BitVec.ofBool false)).toInt = 0 by decide]; norm_num

/-- The spread scales: column `n` has the scale of its block. -/
theorem pay2_at (x : Vec Ideal S28x16 .f32) (g : Fin 28) (n : Fin 2048) : k0_pay2 x (ix2 g n) = x (ix2 g ⟨n.val / 128, by omega⟩) := by
  pointwise [k0_pay2]
  have e : ∀ k : Fin 16, FloatOps.sitofp (F := Ideal) FTy.f32 (BitVec.setWidth 32 (IntOp.cmpi CmpIPredicate.eq (blockWord (BitVec.ofNat 32 n.val)) (BitVec.ofNat 32 k.val)))
      = if n.val / 128 = k.val then 1 else 0 := fun k => by
    rw [blockWord_eq, mark_eq _ _ (by omega) k.isLt]
  unfold blockWord at e
  simp only [e]
  rw [Finset.sum_eq_single (⟨n.val / 128, by omega⟩ : Fin 16)]
  · rw [if_pos rfl, mul_one]
  · intro k _ hk
    rw [if_neg (fun h => hk (Fin.ext h.symm)), mul_zero]
  · exact fun h => absurd (Finset.mem_univ _) h

/-- The first row of a grid point within its sequence, as the body computes it. -/
def rowWord (w : BitVec 32) : BitVec 32 :=
          (Scalar.select
            (Scalar.andi
              (Scalar.xori
                (Scalar.cmpi CmpIPredicate.slt
                  (Scalar.remsi (Scalar.muli w 256#32)
                    (Scalar.select (Scalar.cmpi CmpIPredicate.eq 1024#32 0#32) 1#32 1024#32))
                  0#32)
                (Scalar.cmpi CmpIPredicate.slt (Scalar.select (Scalar.cmpi CmpIPredicate.eq 1024#32 0#32) 1#32 1024#32)
                  0#32))
              (Scalar.cmpi CmpIPredicate.ne
                (Scalar.remsi (Scalar.muli w 256#32)
                  (Scalar.select (Scalar.cmpi CmpIPredicate.eq 1024#32 0#32) 1#32 1024#32))
                0#32))
            (Scalar.addi
              (Scalar.remsi (Scalar.muli w 256#32)
                (Scalar.select (Scalar.cmpi CmpIPredicate.eq 1024#32 0#32) 1#32 1024#32))
              (Scalar.select (Scalar.cmpi CmpIPredicate.eq 1024#32 0#32) 1#32 1024#32))
            (Scalar.remsi (Scalar.muli w 256#32)
              (Scalar.select (Scalar.cmpi CmpIPredicate.eq 1024#32 0#32) 1#32 1024#32)))

/-- Point `t` begins at row `256 (t mod 4)` of its sequence. -/
theorem rowWord_eq : ∀ n : Fin 16, rowWord (BitVec.ofNat 32 n.val) = BitVec.ofNat 32 (256 * (n.val % 4)) := by
  decide +kernel

/-- The sequence of point `t` is `t / 4`. -/
theorem off1_eq : ∀ i : grid0.Coords, k0_off1 i 0 = (i 0).val / 4 := by
  decide +kernel

/-- The position of row `r` of a grid point: its number in its sequence after the sequence's offset. -/
theorem posOf_at (i : grid0.Coords) (n : Fin 16) (hi : (i 0).val = n.val) (x0 : Vec Ideal S4 .i32) (r : Fin 256) (k : Fin 128) :
    posOf i x0 (ix2 r k) = FloatOps.sitofp (F := Ideal) .f32 ((x0 (ix1 ⟨n.val / 4, by omega⟩) : BitVec 32) + BitVec.ofNat 32 (256 * (n.val % 4) + r.val)) := by
  unfold posOf posWord
  rw [hi]
  pointwise [k0_pay129]
  have e := rowWord_eq n
  unfold rowWord at e
  rw [e]
  simp only [off1_eq, hi]
  rw [BitVec.ofNat_add, ← BitVec.add_assoc]
  rfl

end Cert.KernelIdeal.Gen
-- ==== Proof.Rows.lean ====
/-
  The results of the fused layer, token by token: sequence `b`, position `s`, from the arguments.
-/
module
public import proofs.«01_k».proof.Proof.Spec
@[expose] public section
set_option maxRecDepth 16384
noncomputable section
namespace Cert.Qkv
open Idealize.ShloMosaic

/-- The normalised row of a token. -/
def rowH (x : Vec Ideal ⟨3, ![4, 1024, 3584]⟩ .bf16) (w : Vec Ideal ⟨1, ![3584]⟩ .bf16) (b : Fin 4) (s : Fin 1024) : Fin 3584 → EReal :=
  hOf (fun d => x (ix3 b s d)) (fun d => w (ix1 d))

/-- The product of a token's dequantised activations with the dequantised weight. -/
def rowProj (x : Vec Ideal ⟨3, ![4, 1024, 3584]⟩ .bf16) (w : Vec Ideal ⟨1, ![3584]⟩ .bf16) (wq : Vec Ideal ⟨2, ![3584, 2048]⟩ .fp8e4m3)
    (ws : Vec Ideal ⟨2, ![28, 16]⟩ .f32) (b : Fin 4) (s : Fin 1024) : Fin 2048 → EReal :=
  projOf (xaOf (rowH x w b s)) (waOf (fun k n => wq (ix2 k n)) (fun g j => ws (ix2 g j)))

/-- The rotation frequency of pair `k`. -/
def freqOf (k : Fin 128) : EReal :=
  Ideal.pow (Ideal.ofBits .f32 1176256512#32)
    (Ideal.div (-(Ideal.ofBits .f32 1073741824#32 * FloatOps.sitofp (F := Ideal) .f32 (BitVec.ofNat 32 k.val))) (Ideal.ofBits .f32 1132462080#32))

/-- The rotation angle of pair `k` of a token, whose position is its number in the sequence after the sequence's offset. -/
def angOf (p : IVec ⟨1, ![4]⟩ 32) (b : Fin 4) (s : Fin 1024) (k : Fin 128) : EReal :=
  FloatOps.sitofp (F := Ideal) .f32 (p (ix1 b) + BitVec.ofNat 32 s.val) * freqOf k

/-- The normalised and rotated head of a token that starts at column `o` of its product. -/
def rowHead (pr : Fin 2048 → EReal) (p : IVec ⟨1, ![4]⟩ 32) (gain : Vec Ideal ⟨1, ![256]⟩ .bf16) (b : Fin 4) (s : Fin 1024)
    (o : ℕ) (ho : o + 256 ≤ 2048) : Fin 256 → EReal :=
  rotOf (headOf (fun d => pr ⟨o + d.val, by omega⟩) (fun d => gain (ix1 d))) (angOf p b s)

/-- The sequence of a row of the results. -/
abbrev seqOf (y : Fin 4096) : Fin 4 := ⟨y.val / 1024, by omega⟩
/-- The position of a row of the results in its sequence. -/
abbrev tokOf (y : Fin 4096) : Fin 1024 := ⟨y.val % 1024, by omega⟩

section Results
variable (x : Vec Ideal ⟨3, ![4, 1024, 3584]⟩ .bf16) (w : Vec Ideal ⟨1, ![3584]⟩ .bf16) (wq : Vec Ideal ⟨2, ![3584, 2048]⟩ .fp8e4m3)
  (ws : Vec Ideal ⟨2, ![28, 16]⟩ .f32) (p : IVec ⟨1, ![4]⟩ 32) (gain : Vec Ideal ⟨1, ![256]⟩ .bf16)

/-- The queries (`o = 0`, `n = 1024`) or the keys (`o = 1024`, `n = 512`): the heads of the product's columns from `o` on. -/
def resHeads (n o : ℕ) (ho : o + n ≤ 2048) (hn : 256 ∣ n) : Vec Ideal ⟨2, ![4096, n]⟩ .bf16 := fun y =>
  rowHead (rowProj x w wq ws (seqOf (y 0)) (tokOf (y 0))) p gain (seqOf (y 0)) (tokOf (y 0)) (o + 256 * ((y 1).val / 256))
    (by have : (y 1).val < n := (y 1).isLt; omega) ⟨(y 1).val % 256, Nat.mod_lt _ (by decide)⟩

/-- The values: the last columns of the product. -/
def resV : Vec Ideal ⟨2, ![4096, 512]⟩ .bf16 := fun y =>
  rowProj x w wq ws (seqOf (y 0)) (tokOf (y 0)) ⟨1536 + (y 1).val, by have : (y 1).val < 512 := (y 1).isLt; omega⟩

/-- The activation codes. -/
def resCodes : Vec Ideal ⟨2, ![4096, 3584]⟩ .fp8e4m3 := fun y => codeOf (rowH x w (seqOf (y 0)) (tokOf (y 0))) (y 1)

/-- The activation scales. -/
def resScales : Vec Ideal ⟨2, ![4096, 28]⟩ .f32 := fun y => scaleOf (amaxOf (rowH x w (seqOf (y 0)) (tokOf (y 0))) (y 1))

end Results

end Cert.Qkv
-- ==== Proof.KBlocks.lean ====
/-
  What the kernel's grid points leave, from the arguments: the blocks each point reads, and its results row by row.
-/
module
public import proofs.«01_k».proof.Proof.KWords
public import proofs.«01_k».proof.Proof.Rows
@[expose] public section
set_option maxRecDepth 16384
noncomputable section
namespace Cert.KernelIdeal.Gen
open Idealize.ShloMosaic Cert.KernelIdeal Cert.Qkv Idealize.ShloMosaic.Tactic Idealize.ShloMosaic.TcCoe

variable (m : (ℓ : Loc nD τ sig) → Buf (Elt Ideal) ℓ) (c : Dev nD)

/-- The arguments of the layer. -/
abbrev aX : Vec Ideal S4x1024x3584 .bf16 := m ((c : Thread nD τ).loc main_arg0)
/-- The gain of the row norm. -/
abbrev aN : Vec Ideal S3584 .bf16 := m ((c : Thread nD τ).loc main_arg1)
/-- The codes of the weight. -/
abbrev aW : Vec Ideal S3584x2048 .fp8e4m3 := m ((c : Thread nD τ).loc main_arg2)
/-- The scales of the weight. -/
abbrev aS : Vec Ideal S28x16 .f32 := m ((c : Thread nD τ).loc main_arg3)
/-- The positions at which the sequences begin. -/
abbrev aP : Vec Ideal S4 .i32 := m ((c : Thread nD τ).loc main_arg4)
/-- The gain of the norm of the queries. -/
abbrev aQ : Vec Ideal S256 .bf16 := m ((c : Thread nD τ).loc main_arg5)
/-- The gain of the norm of the keys. -/
abbrev aK : Vec Ideal S256 .bf16 := m ((c : Thread nD τ).loc main_arg6)

/-- The blocks of a grid point. -/
abbrev b0 (t : Fin cfg0.N) : Vec Ideal S4 .i32 := iblk m c 0 t
/-- The point's 256 rows of `x`. -/
abbrev b1 (t : Fin cfg0.N) : Vec Ideal S256x3584 .bf16 := iblk m c 1 t
/-- The gain of the row norm. -/
abbrev b2 (t : Fin cfg0.N) : Vec Ideal S1x3584 .bf16 := iblk m c 2 t
/-- The codes of the weight. -/
abbrev b3 (t : Fin cfg0.N) : Vec Ideal S3584x2048 .fp8e4m3 := iblk m c 3 t
/-- The scales of the weight. -/
abbrev b4 (t : Fin cfg0.N) : Vec Ideal S28x16 .f32 := iblk m c 4 t
/-- The gain of the queries. -/
abbrev b5 (t : Fin cfg0.N) : Vec Ideal S1x256 .bf16 := iblk m c 5 t
/-- The gain of the keys. -/
abbrev b6 (t : Fin cfg0.N) : Vec Ideal S1x256 .bf16 := iblk m c 6 t
/-- The frequencies of the rotation. -/
abbrev b7 (t : Fin cfg0.N) : Vec Ideal S1x128 .f32 := iblk m c 7 t

/-- The block each window reads at a grid point: the rows of `x` move with the point, the others stay. -/
theorem idx_facts : ∀ t : Fin cfg0.N, win0_0.index t = ![0] ∧ win0_1.index t = ![t.val, 0] ∧ win0_2.index t = ![0, 0] ∧ win0_3.index t = ![0, 0]
    ∧ win0_4.index t = ![0, 0] ∧ win0_5.index t = ![0, 0] ∧ win0_6.index t = ![0, 0] ∧ win0_7.index t = ![0, 0] :=
  (by decide +kernel : ∀ t : Fin grid0.N, _)

/-- The block this window reads. -/
theorem idx0 : ∀ t : Fin cfg0.N, win0_0.index t = ![0] := fun t => (idx_facts t).1
/-- The block this window reads. -/
theorem idx1 : ∀ t : Fin cfg0.N, win0_1.index t = ![t.val, 0] := fun t => (idx_facts t).2.1
/-- The block this window reads. -/
theorem idx2 : ∀ t : Fin cfg0.N, win0_2.index t = ![0, 0] := fun t => (idx_facts t).2.2.1
/-- The block this window reads. -/
theorem idx3 : ∀ t : Fin cfg0.N, win0_3.index t = ![0, 0] := fun t => (idx_facts t).2.2.2.1
/-- The block this window reads. -/
theorem idx4 : ∀ t : Fin cfg0.N, win0_4.index t = ![0, 0] := fun t => (idx_facts t).2.2.2.2.1
/-- The block this window reads. -/
theorem idx5 : ∀ t : Fin cfg0.N, win0_5.index t = ![0, 0] := fun t => (idx_facts t).2.2.2.2.2.1
/-- The block this window reads. -/
theorem idx6 : ∀ t : Fin cfg0.N, win0_6.index t = ![0, 0] := fun t => (idx_facts t).2.2.2.2.2.2.1
/-- The block this window reads. -/
theorem idx7 : ∀ t : Fin cfg0.N, win0_7.index t = ![0, 0] := fun t => (idx_facts t).2.2.2.2.2.2.2

/-- A row of the point's block is a row of the reshaped input. -/
theorem b1_V (t : Fin cfg0.N) (r : Fin 256) (d : Fin 3584) (h : 256 * t.val + r.val < 4096) :
    b1 m c t (ix2 r d) = (V m c main_v10 : Vec Ideal S4096x3584 .bf16) (ix2 ⟨256 * t.val + r.val, h⟩ d) := by
  blk_ext [iblk, idx1 t]

/-- Row `1024 b + s` of the reshaped input is token `s` of sequence `b`. -/
theorem V10_at (b : Fin 4) (s : Fin 1024) (d : Fin 3584) (h : 1024 * b.val + s.val < 4096) :
    (V m c main_v10 : Vec Ideal S4096x3584 .bf16) (ix2 ⟨1024 * b.val + s.val, h⟩ d) = aX m c (ix3 b s d) := by
  entry_read
  pointwise
  blk_ext []

/-- The offsets' block holds the offsets. -/
theorem b0_at (t : Fin cfg0.N) (i : Fin 4) : b0 m c t (ix1 i) = aP m c (ix1 i) := by
  refine Eq.trans (?_ : _ = (V m c main_arg4 : Vec Ideal S4 .i32) (ix1 i)) (congrFun (V_main_arg4 m c) _)
  blk_ext [iblk, idx0 t]

/-- Row `r` of block `j` of sequence `b` is token `256 j + r`. -/
theorem b1_at (t : Fin cfg0.N) (b : Fin 4) (j : Fin 4) (ht : t.val = 4 * b.val + j.val) (r : Fin 256) (d : Fin 3584) :
    b1 m c t (ix2 r d) = aX m c (ix3 b ⟨256 * j.val + r.val, by omega⟩ d) := by
  rw [b1_V m c t r d (by omega), ← V10_at m c b ⟨256 * j.val + r.val, by omega⟩ d (by show 1024 * b.val + (256 * j.val + r.val) < 4096; omega)]
  congr 2
  exact Fin.ext (by show 256 * t.val + r.val = 1024 * b.val + (256 * j.val + r.val); omega)

/-- The block of the row norm's gain holds the gain. -/
theorem b2_at (t : Fin cfg0.N) (d : Fin 3584) : b2 m c t (ix2 0 d) = aN m c (ix1 d) := by
  refine Eq.trans (?_ : _ = (V m c main_v11 : Vec Ideal S1x3584 .bf16) (ix2 0 d)) ?_
  · blk_ext [iblk, idx2 t]
  · entry_read
    pointwise

/-- The weight's block holds the whole weight. -/
theorem b3_at (t : Fin cfg0.N) (k : Fin 3584) (n : Fin 2048) : b3 m c t (ix2 k n) = aW m c (ix2 k n) := by
  refine Eq.trans (?_ : _ = (V m c main_arg2 : Vec Ideal S3584x2048 .fp8e4m3) (ix2 k n)) (congrFun (V_main_arg2 m c) _)
  blk_ext [iblk, idx3 t]

/-- The block of the weight's scales holds all of them. -/
theorem b4_at (t : Fin cfg0.N) (g : Fin 28) (j : Fin 16) : b4 m c t (ix2 g j) = aS m c (ix2 g j) := by
  refine Eq.trans (?_ : _ = (V m c main_arg3 : Vec Ideal S28x16 .f32) (ix2 g j)) (congrFun (V_main_arg3 m c) _)
  blk_ext [iblk, idx4 t]

/-- The block of the queries' gain holds the gain. -/
theorem b5_at (t : Fin cfg0.N) (d : Fin 256) : b5 m c t (ix2 0 d) = aQ m c (ix1 d) := by
  refine Eq.trans (?_ : _ = (V m c main_v12 : Vec Ideal S1x256 .bf16) (ix2 0 d)) ?_
  · blk_ext [iblk, idx5 t]
  · entry_read
    pointwise

/-- The block of the keys' gain holds the gain. -/
theorem b6_at (t : Fin cfg0.N) (d : Fin 256) : b6 m c t (ix2 0 d) = aK m c (ix1 d) := by
  refine Eq.trans (?_ : _ = (V m c main_v13 : Vec Ideal S1x256 .bf16) (ix2 0 d)) ?_
  · blk_ext [iblk, idx6 t]
  · entry_read
    pointwise

/-- The frequencies' block holds the frequencies. -/
theorem b7_at (t : Fin cfg0.N) (k : Fin 128) : b7 m c t (ix2 0 k) = freqOf k := by
  refine Eq.trans (?_ : _ = (V m c main_v14 : Vec Ideal S1x128 .f32) (ix2 0 k)) ?_
  · blk_ext [iblk, idx7 t]
  · entry_read
    pointwise
    rfl

/-- The row of a point's block of `x`, normalised. -/
theorem h_at (t : Fin cfg0.N) (b : Fin 4) (j : Fin 4) (ht : t.val = 4 * b.val + j.val) (r : Fin 256) :
    hOf (fun d => b1 m c t (ix2 r d)) (fun d => b2 m c t (ix2 0 d)) = rowH (aX m c) (aN m c) b ⟨256 * j.val + r.val, by omega⟩ := by
  unfold rowH
  congr 1 <;> funext d
  · exact b1_at m c t b j ht r d
  · exact b2_at m c t d

/-- The codes of a block. -/
theorem codesG_row (x : Vec Ideal S256x3584 .bf16) (w : Vec Ideal S1x3584 .bf16) (r : Fin 256) (d : Fin 3584) :
    codesG (k0_pay36 x w) (kinv x w) (ix2 r d) = codeOf (hOf (fun d => x (ix2 r d)) (fun d => w (ix2 0 d))) d := by
  exact congrArg₂ clipOf (pay36_at x w r d) (kinv_at x w r (grp d))

/-- The values a block's codes stand for. -/
theorem xaG_row (x : Vec Ideal S256x3584 .bf16) (w : Vec Ideal S1x3584 .bf16) (r : Fin 256) (d : Fin 3584) :
    xaG (k0_pay36 x w) (kscale x w) (kinv x w) (ix2 r d) = xaOf (hOf (fun d => x (ix2 r d)) (fun d => w (ix2 0 d))) d := by
  exact congrArg₂ (fun a b : EReal => a * b) (codesG_row x w r d) (kscale_at x w r (grp d))

/-- The dequantised weights. -/
theorem waG_row (t : Fin cfg0.N) (k : Fin 3584) (n : Fin 2048) :
    waG (b3 m c t) (k0_pay2 (b4 m c t)) (ix2 k n) = waOf (fun k n => aW m c (ix2 k n)) (fun g j => aS m c (ix2 g j)) k n := by
  show b3 m c t (ix2 k n) * k0_pay2 (b4 m c t) (ix2 ⟨k.val / 128, _⟩ n) = _
  rw [pay2_at, b3_at, b4_at]
  rfl

/-- The weight scratch is the same after every point. -/
theorem waG_const (t t' : Fin cfg0.N) : waG (b3 m c t) (k0_pay2 (b4 m c t)) = waG (b3 m c t') (k0_pay2 (b4 m c t')) := by
  funext y
  rw [eq_ix2 y]
  exact (waG_row m c t _ _).trans (waG_row m c t' _ _).symm

/-- A row of a block's product. -/
theorem kproj_row (t t' : Fin cfg0.N) (b : Fin 4) (j : Fin 4) (ht : t.val = 4 * b.val + j.val) (r : Fin 256) (n : Fin 2048) :
    kproj (b1 m c t) (b2 m c t) (waG (b3 m c t') (k0_pay2 (b4 m c t'))) (ix2 r n)
      = rowProj (aX m c) (aN m c) (aW m c) (aS m c) b ⟨256 * j.val + r.val, by omega⟩ n := by
  refine (proj_at _ _ r n).trans (congrArg₂ (fun xa wa => projOf xa wa n) (funext fun k => ?_) (funext fun k => funext fun n => waG_row m c t' k n))
  exact (xaG_row _ _ r k).trans (congrArg (fun h => xaOf h k) (h_at m c t b j ht r))

/-- A head of a row of a block. -/
theorem head_row (t t' : Fin cfg0.N) (b : Fin 4) (j : Fin 4) (ht : t.val = 4 * b.val + j.val) (w : Vec Ideal S1x256 .bf16) (gain : Vec Ideal S256 .bf16)
    (hw : ∀ d : Fin 256, w (ix2 0 d) = gain (ix1 d)) (o : ℕ) (ho : o + 256 ≤ 2048) (r d : Fin 256) :
    headAt (kproj (b1 m c t) (b2 m c t) (waG (b3 m c t') (k0_pay2 (b4 m c t')))) (posOf (grid0.coords t) (b0 m c t)) (b7 m c t) w o ho r d
      = rowHead (rowProj (aX m c) (aN m c) (aW m c) (aS m c) b ⟨256 * j.val + r.val, by omega⟩) (aP m c) gain b ⟨256 * j.val + r.val, by omega⟩ o ho d := by
  have e0 : (grid0.coords t 0).val = t.val / 1 % 16 := Pipeline.Grid.coords_val t 0 (by decide) rfl
  have hN : t.val < 16 := by omega
  have e1 : (⟨t.val / 4, by omega⟩ : Fin 4) = b := Fin.ext (by show t.val / 4 = b.val; omega)
  have e2 : 256 * (t.val % 4) + r.val = 256 * j.val + r.val := by omega
  refine congrArg₂ (fun n a => rotOf n a d) (congrArg₂ headOf (funext fun d => kproj_row m c t t' b j ht r _) (funext hw)) (funext fun k => ?_)
  refine congrArg₂ (fun a b : EReal => a * b) ?_ (b7_at m c t k)
  rw [posOf_at (grid0.coords t) ⟨t.val, hN⟩ (e0.trans (by show t.val / 1 % 16 = t.val; omega)) _ r k, b0_at]
  show FloatOps.sitofp (F := Ideal) .f32 ((aP m c (ix1 ⟨t.val / 4, _⟩) : BitVec 32) + BitVec.ofNat 32 (256 * (t.val % 4) + r.val)) = _
  rw [e1, e2]

end Cert.KernelIdeal.Gen
-- ==== Proof.KPoints.lean ====
/-
  The results of the kernel's grid points, from the arguments, row by row.
-/
module
public import proofs.«01_k».proof.Proof.KBlocks
@[expose] public section
set_option maxRecDepth 16384
noncomputable section
namespace Cert.KernelIdeal.Gen
open Idealize.ShloMosaic Cert.KernelIdeal Cert.Qkv Idealize.ShloMosaic.Tactic Idealize.ShloMosaic.TcCoe

variable (m : (ℓ : Loc nD τ sig) → Buf (Elt Ideal) ℓ) (c : Dev nD)

/-- The weight scratch after any point holds the dequantised weights. -/
theorem scr_pt : ∀ (n : ℕ) (hn : n < cfg0.N), (outsAt0 m c n hn).2.2.2.2.2 = waG (b3 m c ⟨n, hn⟩) (k0_pay2 (b4 m c ⟨n, hn⟩))
  | 0, hn => by
    rw [outsAt0_A m c ⟨0, hn⟩ rfl]
    dsimp only
    unfold sout0_A_0
    rw [View.read_writes_junk_eq_canon]
    exact wa_run _ _ _ _ _ _ _
  | n + 1, hn => by
    have hN : n + 1 < 16 := lt_of_lt_of_eq hn N_0
    have h0 : ¬ (n + 1) % 16 = 0 := by omega
    rw [outsAt0_B m c ⟨n + 1, hn⟩ h0]
    dsimp only
    unfold sout0_B_0
    exact (scr_pt n (by omega)).trans (waG_const m c _ _)

/-- The codes a grid point leaves. -/
theorem codes_pt (t : Fin cfg0.N) : (outsAt0 m c t.val t.isLt).2.2.2.1 = codesG (k0_pay36 (b1 m c t) (b2 m c t)) (kinv (b1 m c t) (b2 m c t)) := by
  by_cases h0 : t.val % 16 = 0
  · rw [outsAt0_A m c t h0]
    dsimp only
    unfold out0_A_11
    rw [View.read_writes_junk_eq_canon, codes_runA]
  · rw [outsAt0_B m c t h0]
    dsimp only
    unfold out0_B_11
    rw [View.read_writes_junk_eq_canon, codes_runB]

/-- The scales a grid point leaves. -/
theorem xs_pt (t : Fin cfg0.N) (r : Fin 256) (l : Fin 28) :
    (outsAt0 m c t.val t.isLt).2.2.2.2.1 (ix2 r l) = kscale (b1 m c t) (b2 m c t) (ix2 r ⟨l.val, by omega⟩) := by
  by_cases h0 : t.val % 16 = 0
  · rw [outsAt0_A m c t h0]
    dsimp only
    unfold out0_A_12
    rw [View.read_writes_junk_eq_canon, xs_runA]
  · rw [outsAt0_B m c t h0]
    dsimp only
    unfold out0_B_12
    rw [View.read_writes_junk_eq_canon, xs_runB]

/-- The product of a point's block. -/
abbrev prj (t : Fin cfg0.N) : FVec Ideal S256x2048 .f32 := kproj (b1 m c t) (b2 m c t) (waG (b3 m c t) (k0_pay2 (b4 m c t)))

/-- The scratch a later point finds. -/
theorem scr_prev (t : Fin cfg0.N) (h : t.val - 1 < cfg0.N) :
    (outsAt0 m c (t.val - 1) h).2.2.2.2.2 = waG (b3 m c t) (k0_pay2 (b4 m c t)) :=
  (scr_pt m c _ h).trans (waG_const m c _ _)

/-- The queries a grid point leaves. -/
theorem q_pt (t : Fin cfg0.N) : (outsAt0 m c t.val t.isLt).1
    = headsG 1024 0 (by decide) (by decide) (prj m c t) (posOf (grid0.coords t) (b0 m c t)) (b7 m c t) (b5 m c t) := by
  by_cases h0 : t.val % 16 = 0
  · rw [outsAt0_A m c t h0]
    dsimp only
    unfold out0_A_8
    rw [View.read_writes_junk_eq_canon, q_runA]
  · rw [outsAt0_B m c t h0]
    dsimp only
    unfold out0_B_8
    rw [View.read_writes_junk_eq_canon, q_runB, scr_prev]

/-- The keys a grid point leaves. -/
theorem k_pt (t : Fin cfg0.N) : (outsAt0 m c t.val t.isLt).2.1
    = headsG 512 1024 (by decide) (by decide) (prj m c t) (posOf (grid0.coords t) (b0 m c t)) (b7 m c t) (b6 m c t) := by
  by_cases h0 : t.val % 16 = 0
  · rw [outsAt0_A m c t h0]
    dsimp only
    unfold out0_A_9
    rw [View.read_writes_junk_eq_canon, k_runA]
  · rw [outsAt0_B m c t h0]
    dsimp only
    unfold out0_B_9
    rw [View.read_writes_junk_eq_canon, k_runB, scr_prev]

/-- The values a grid point leaves. -/
theorem v_pt (t : Fin cfg0.N) : (outsAt0 m c t.val t.isLt).2.2.1 = k0_pay1 (prj m c t) := by
  by_cases h0 : t.val % 16 = 0
  · rw [outsAt0_A m c t h0]
    dsimp only
    unfold out0_A_10
    rw [View.read_writes_junk_eq_canon, v_runA]
  · rw [outsAt0_B m c t h0]
    dsimp only
    unfold out0_B_10
    rw [View.read_writes_junk_eq_canon, v_runB, scr_prev]

end Cert.KernelIdeal.Gen
-- ==== Proof.KResult.lean ====
/-
  The kernel's results as the layer's, from the arguments.
-/
module
public import proofs.«01_k».proof.Proof.KPoints
@[expose] public section
set_option maxRecDepth 16384
noncomputable section
namespace Cert.KernelIdeal.Gen
open Idealize.ShloMosaic Cert.KernelIdeal Cert.Qkv Idealize.ShloMosaic.Tactic Idealize.ShloMosaic.TcCoe

variable (m : (ℓ : Loc nD τ sig) → Buf (Elt Ideal) ℓ) (c : Dev nD)

/-- Row `y` of the results is row `y % 256` of the block of point `y / 256`. -/
theorem row_split (y : Fin 4096) (t : ℕ) (ht : t = y.val / 256) :
    t = 4 * (seqOf y).val + (⟨t % 4, Nat.mod_lt _ (by decide)⟩ : Fin 4).val
      ∧ (⟨256 * (⟨t % 4, Nat.mod_lt _ (by decide)⟩ : Fin 4).val + (⟨y.val % 256, Nat.mod_lt _ (by decide)⟩ : Fin 256).val,
          by show 256 * (t % 4) + y.val % 256 < 1024; omega⟩ : Fin 1024) = tokOf y := by
  refine ⟨?_, Fin.ext ?_⟩
  · show t = 4 * (y.val / 1024) + t % 4; omega
  · show 256 * (t % 4) + y.val % 256 = y.val % 1024; omega

/-- The kernel's codes are the layer's. -/
theorem codes_res : Cert.KernelIdeal.Value.G11 m c = (resCodes (aX m c) (aN m c) : Vec Ideal S4096x3584 .fp8e4m3) := by
  funext y
  have h0 : (y 0).val < 4096 := (y 0).isLt
  have h1 : (y 1).val < 3584 := (y 1).isLt
  have hp : Cert.KernelIdeal.Value.pt11Of y = (y 0).val / 256 := by
    show 1 * ((y 0).val / 256 - 0) + 1 * ((y 1).val / 3584 - 0) = _; omega
  have ht : Cert.KernelIdeal.Value.pt11Of y < cfg0.N := by rw [hp]; exact lt_of_lt_of_eq (by omega) N_0.symm
  have hl : Cert.KernelIdeal.Value.loc11Of y = ix2 ⟨(y 0).val % 256, Nat.mod_lt _ (by decide)⟩ (y 1) := by
    rw [eq_ix2 (Cert.KernelIdeal.Value.loc11Of y)]
    exact congrArg (ix2 _) (Fin.ext (by show (y 1).val % 3584 = (y 1).val; omega))
  obtain ⟨e1, e2⟩ := row_split (y 0) _ hp
  unfold Cert.KernelIdeal.Value.G11
  rw [dif_pos ht, ← Cert.KernelIdeal.Value.outsAt0_sweep m c _ ht, codes_pt m c ⟨_, ht⟩, hl]
  refine (codesG_row _ _ _ _).trans ?_
  rw [h_at m c ⟨_, ht⟩ _ _ e1, e2]
  rfl

/-- The kernel's scales are the layer's. -/
theorem scales_res : Cert.KernelIdeal.Value.G12 m c = (resScales (aX m c) (aN m c) : Vec Ideal S4096x28 .f32) := by
  funext y
  have h0 : (y 0).val < 4096 := (y 0).isLt
  have h1 : (y 1).val < 28 := (y 1).isLt
  have hp : Cert.KernelIdeal.Value.pt12Of y = (y 0).val / 256 := by
    show 1 * ((y 0).val / 256 - 0) + 1 * ((y 1).val / 28 - 0) = _; omega
  have ht : Cert.KernelIdeal.Value.pt12Of y < cfg0.N := by rw [hp]; exact lt_of_lt_of_eq (by omega) N_0.symm
  have hl : Cert.KernelIdeal.Value.loc12Of y = ix2 ⟨(y 0).val % 256, Nat.mod_lt _ (by decide)⟩ (y 1) := by
    rw [eq_ix2 (Cert.KernelIdeal.Value.loc12Of y)]
    exact congrArg (ix2 _) (Fin.ext (by show (y 1).val % 28 = (y 1).val; omega))
  obtain ⟨e1, e2⟩ := row_split (y 0) _ hp
  unfold Cert.KernelIdeal.Value.G12
  rw [dif_pos ht, ← Cert.KernelIdeal.Value.outsAt0_sweep m c _ ht, hl]
  refine (xs_pt m c ⟨_, ht⟩ _ _).trans ((kscale_at _ _ _ _).trans ?_)
  rw [h_at m c ⟨_, ht⟩ _ _ e1, e2]
  rfl

/-- The kernel's values are the layer's. -/
theorem v_res : Cert.KernelIdeal.Value.G10 m c = (resV (aX m c) (aN m c) (aW m c) (aS m c) : Vec Ideal S4096x512 .bf16) := by
  funext y
  have h0 : (y 0).val < 4096 := (y 0).isLt
  have h1 : (y 1).val < 512 := (y 1).isLt
  have hp : Cert.KernelIdeal.Value.pt10Of y = (y 0).val / 256 := by
    show 1 * ((y 0).val / 256 - 0) + 1 * ((y 1).val / 512 - 0) = _; omega
  have ht : Cert.KernelIdeal.Value.pt10Of y < cfg0.N := by rw [hp]; exact lt_of_lt_of_eq (by omega) N_0.symm
  have hl : Cert.KernelIdeal.Value.loc10Of y = ix2 ⟨(y 0).val % 256, Nat.mod_lt _ (by decide)⟩ (y 1) := by
    rw [eq_ix2 (Cert.KernelIdeal.Value.loc10Of y)]
    exact congrArg (ix2 _) (Fin.ext (by show (y 1).val % 512 = (y 1).val; omega))
  obtain ⟨e1, e2⟩ := row_split (y 0) _ hp
  unfold Cert.KernelIdeal.Value.G10
  rw [dif_pos ht, ← Cert.KernelIdeal.Value.outsAt0_sweep m c _ ht, v_pt m c ⟨_, ht⟩, hl]
  refine (v_at _ _ _).trans ((kproj_row m c ⟨_, ht⟩ ⟨_, ht⟩ _ _ e1 _ _).trans ?_)
  rw [e2]
  rfl

/-- The kernel's queries are the layer's. -/
theorem q_res : Cert.KernelIdeal.Value.G8 m c = (resHeads (aX m c) (aN m c) (aW m c) (aS m c) (aP m c) (aQ m c) 1024 0 (by decide) (by decide) : Vec Ideal S4096x1024 .bf16) := by
  funext y
  have h0 : (y 0).val < 4096 := (y 0).isLt
  have h1 : (y 1).val < 1024 := (y 1).isLt
  have hp : Cert.KernelIdeal.Value.pt8Of y = (y 0).val / 256 := by
    show 1 * ((y 0).val / 256 - 0) + 1 * ((y 1).val / 1024 - 0) = _; omega
  have ht : Cert.KernelIdeal.Value.pt8Of y < cfg0.N := by rw [hp]; exact lt_of_lt_of_eq (by omega) N_0.symm
  have hl : Cert.KernelIdeal.Value.loc8Of y = ix2 ⟨(y 0).val % 256, Nat.mod_lt _ (by decide)⟩ (y 1) := by
    rw [eq_ix2 (Cert.KernelIdeal.Value.loc8Of y)]
    exact congrArg (ix2 _) (Fin.ext (by show (y 1).val % 1024 = (y 1).val; omega))
  obtain ⟨e1, e2⟩ := row_split (y 0) _ hp
  unfold Cert.KernelIdeal.Value.G8
  rw [dif_pos ht, ← Cert.KernelIdeal.Value.outsAt0_sweep m c _ ht, q_pt m c ⟨_, ht⟩, hl]
  refine (head_row m c ⟨_, ht⟩ ⟨_, ht⟩ _ _ e1 _ _ (b5_at m c ⟨_, ht⟩) (0 + 256 * ((y 1).val / 256)) (by omega) _ _).trans ?_
  exact congrArg (fun s => rowHead (rowProj (aX m c) (aN m c) (aW m c) (aS m c) (seqOf (y 0)) s) (aP m c) (aQ m c) (seqOf (y 0)) s (0 + 256 * ((y 1).val / 256)) (by omega)
    ⟨(y 1).val % 256, Nat.mod_lt _ (by decide)⟩) e2

/-- The kernel's keys are the layer's. -/
theorem k_res : Cert.KernelIdeal.Value.G9 m c = (resHeads (aX m c) (aN m c) (aW m c) (aS m c) (aP m c) (aK m c) 512 1024 (by decide) (by decide) : Vec Ideal S4096x512 .bf16) := by
  funext y
  have h0 : (y 0).val < 4096 := (y 0).isLt
  have h1 : (y 1).val < 512 := (y 1).isLt
  have hp : Cert.KernelIdeal.Value.pt9Of y = (y 0).val / 256 := by
    show 1 * ((y 0).val / 256 - 0) + 1 * ((y 1).val / 512 - 0) = _; omega
  have ht : Cert.KernelIdeal.Value.pt9Of y < cfg0.N := by rw [hp]; exact lt_of_lt_of_eq (by omega) N_0.symm
  have hl : Cert.KernelIdeal.Value.loc9Of y = ix2 ⟨(y 0).val % 256, Nat.mod_lt _ (by decide)⟩ (y 1) := by
    rw [eq_ix2 (Cert.KernelIdeal.Value.loc9Of y)]
    exact congrArg (ix2 _) (Fin.ext (by show (y 1).val % 512 = (y 1).val; omega))
  obtain ⟨e1, e2⟩ := row_split (y 0) _ hp
  unfold Cert.KernelIdeal.Value.G9
  rw [dif_pos ht, ← Cert.KernelIdeal.Value.outsAt0_sweep m c _ ht, k_pt m c ⟨_, ht⟩, hl]
  refine (head_row m c ⟨_, ht⟩ ⟨_, ht⟩ _ _ e1 _ _ (b6_at m c ⟨_, ht⟩) (1024 + 256 * ((y 1).val / 256)) (by omega) _ _).trans ?_
  exact congrArg (fun s => rowHead (rowProj (aX m c) (aN m c) (aW m c) (aS m c) (seqOf (y 0)) s) (aP m c) (aK m c) (seqOf (y 0)) s (1024 + 256 * ((y 1).val / 256)) (by omega)
    ⟨(y 1).val % 256, Nat.mod_lt _ (by decide)⟩) e2

end Cert.KernelIdeal.Gen
-- ==== Proof.RQuant.lean ====
/-
  The reference's quantiser at an index: the scale of a group, and the codes.
-/
module
public import proofs.«01_k».proof.Proof.Gen.ReferenceIdeal.Skeleton
public import proofs.«01_k».proof.Proof.Rows
@[expose] public section
set_option maxRecDepth 16384
noncomputable section
namespace Cert.ReferenceIdeal.Gen
open Idealize.ShloMosaic Cert.ReferenceIdeal Cert.Qkv

/-- The rows, in groups of 128 columns. -/
theorem pay4_at (a : Vec Ideal S4096x3584 .f32) (r : Fin 4096) (l : Fin 28) (k : Fin 128) :
    k0_pay4 a (ix3 r l k) = a (ix2 r ⟨128 * l.val + k.val, by omega⟩) := by
  pointwise [k0_pay4]
  first
    | done
    | (congr 2; ext; simp; omega)

/-- The magnitudes of the groups. -/
def rmag (v2 : FVec Ideal S4096x28x128 .f32) : FVec Ideal S4096x28x1 .f32 :=
  shapeCast S4096x28x1 (multiReduction .maximumf [2] S4096x28 (absf v2) 0xFF800000#32 reduces_S4096x28x128_S4096x28 (.inl rfl) rfl) shapeCasts_S4096x28_S4096x28x1

/-- The magnitude of a group is the largest absolute value in it. -/
theorem rmag_at (v2 : FVec Ideal S4096x28x128 .f32) (r : Fin 4096) (l : Fin 28) :
    rmag v2 (ix3 r l 0) = Finset.fold max (Ideal.ofBits .f32 4286578688#32)
      (fun x : Fin 128 => FloatOps.absf (F := Ideal) (φ := .f32) (v2 (ix3 r l x))) Finset.univ := by
  pointwise [rmag]

/-- The codes, of the row in groups and the groups' scales. -/
def rcodes (v2 : FVec Ideal S4096x28x128 .f32) (v31 : FVec Ideal S4096x28x1 .f32) : FVec Ideal S4096x3584 .fp8e4m3 :=
  shapeCast S4096x3584
    (truncf .fp8e4m3
      (minimumf (broadcast S4096x28x128 (Scalar.ofBits .f32 0x43E00000#32 : Ideal .f32))
        (maximumf (broadcast S4096x28x128 (Scalar.ofBits .f32 0xC3E00000#32 : Ideal .f32))
          (mulf v2
            (broadcastTo S4096x28x128 (divf (broadcast S4096x28x1 (Scalar.ofBits .f32 0x3F800000#32 : Ideal .f32)) v31) broadcasts_S4096x28x1_S4096x28x128))))
      bitsLt_fp8e4m3_f32)
    shapeCasts_S4096x28x128_S4096x3584

/-- A code is the clipped entry over its group's scale. -/
theorem rcodes_at (v2 : FVec Ideal S4096x28x128 .f32) (v31 : FVec Ideal S4096x28x1 .f32) (r : Fin 4096) (d : Fin 3584) :
    rcodes v2 v31 (ix2 r d) = clipOf (v2 (ix3 r ⟨d.val / 128, by omega⟩ ⟨d.val % 128, Nat.mod_lt _ (by decide)⟩)) (Ideal.div 1 (v31 (ix3 r ⟨d.val / 128, by omega⟩ 0))) := by
  unfold clipOf
  pointwise [rcodes]

/-- The powers of two `2^(x-125)`, from which the scales are taken. -/
def rpow : FVec Ideal S1x1x253 .f32 :=
  exp2 (subf (sitofp .f32 (iota .tc S1x1x253 32 [2] iota_S1x1x253_d2_w32)) (broadcast S1x1x253 (Scalar.ofBits .f32 0x42FA0000#32 : Ideal .f32)))

/-- The powers above `v7`, infinity in the place of the others. -/
def rcand (v7 : FVec Ideal S4096x28x1 .f32) (v12 : FVec Ideal S1x1x253 .f32) : FVec Ideal S4096x28x253 .f32 :=
  select (cmpf .olt (broadcastTo S4096x28x253 v7 broadcasts_S4096x28x1_S4096x28x253) (broadcastTo S4096x28x253 v12 broadcasts_S1x1x253_S4096x28x253))
    (broadcastTo S4096x28x253 (shapeCast S1x1x253 v12 shapeCasts_S1x1x253_S1x1x253) broadcasts_S1x1x253_S4096x28x253)
    (broadcast S4096x28x253 (Scalar.ofBits .f32 0x7F800000#32 : Ideal .f32))

/-- The least of them. -/
def rleast (v19 : FVec Ideal S4096x28x253 .f32) : FVec Ideal S4096x28x1 .f32 :=
  shapeCast S4096x28x1 (multiReduction .minimumf [2] S4096x28 v19 0x7F800000#32 reduces_S4096x28x253_S4096x28 (.inl rfl) rfl) shapeCasts_S4096x28_S4096x28x1

/-- The exceptional cases, where the scale is one. -/
def rpick (v5 v7 v21 : FVec Ideal S4096x28x1 .f32) : FVec Ideal S4096x28x1 .f32 :=
  have v26 : IVec S4096x28x1 1 := ori (cmpf .oeq v5 (broadcast S4096x28x1 (Scalar.ofBits .f32 0x00000000#32 : Ideal .f32)))
    (cmpf .olt v7 (broadcast S4096x28x1 (Scalar.ofBits .f32 0x00800000#32 : Ideal .f32)))
  have v29 : IVec S4096x28x1 1 := ori v26 (cmpf .oeq v21 (broadcast S4096x28x1 (Scalar.ofBits .f32 0x7F800000#32 : Ideal .f32)))
  select v29 (broadcast S4096x28x1 (Scalar.ofBits .f32 0x3F800000#32 : Ideal .f32)) v21

/-- A magnitude over 448, as the kernel multiplies it. -/
def rstep (v5 : FVec Ideal S4096x28x1 .f32) : FVec Ideal S4096x28x1 .f32 :=
  mulf v5 (broadcast S4096x28x1 (Scalar.ofBits .f32 0x3B124925#32 : Ideal .f32))

/-- The scales, of the groups' magnitudes. -/
def rscl (v5 : FVec Ideal S4096x28x1 .f32) : FVec Ideal S4096x28x1 .f32 :=
  rpick v5 (rstep v5) (rleast (rcand (rstep v5) rpow))

/-- Power number `x`. -/
theorem rpow_at (x : Fin 253) : rpow (ix3 0 0 x) = FloatOps.exp2 (FloatOps.sitofp FTy.f32 (BitVec.ofNat 32 x.val) - Ideal.ofBits FTy.f32 1123680256#32) := by
  pointwise [rpow]
/-- A power counts when it is above `v7`. -/
theorem rcand_at (v7 : FVec Ideal S4096x28x1 .f32) (v12 : FVec Ideal S1x1x253 .f32) (r : Fin 4096) (l : Fin 28) (x : Fin 253) :
    rcand v7 v12 (ix3 r l x) = if v7 (ix3 r l 0) < v12 (ix3 0 0 x) then v12 (ix3 0 0 x) else Ideal.ofBits .f32 2139095040#32 := by
  pointwise [rcand]
/-- The least over all powers. -/
theorem rleast_at (v : FVec Ideal S4096x28x253 .f32) (r : Fin 4096) (l : Fin 28) :
    rleast v (ix3 r l 0) = Finset.fold min (Ideal.ofBits .f32 2139095040#32) (fun x : Fin 253 => v (ix3 r l x)) Finset.univ := by
  pointwise [rleast]
/-- The magnitude times the constant 1/448. -/
theorem rstep_at (v : FVec Ideal S4096x28x1 .f32) (r : Fin 4096) (l : Fin 28) :
    rstep v (ix3 r l 0) = v (ix3 r l 0) * Ideal.ofBits .f32 991054117#32 := by
  pointwise [rstep]
/-- The three exceptional cases. -/
theorem rpick_at (v w u : FVec Ideal S4096x28x1 .f32) (r : Fin 4096) (l : Fin 28) :
    rpick v w u (ix3 r l 0) =  Scalar.select
      (IntOp.ori (IntOp.ori (BitVec.ofBool (decide (v (ix3 r l 0) = 0))) (BitVec.ofBool (decide (w (ix3 r l 0) < Ideal.ofBits .f32 8388608#32))))
        (BitVec.ofBool (decide (u (ix3 r l 0) = Ideal.ofBits .f32 2139095040#32)))) 1 (u (ix3 r l 0)) := by
  pointwise [rpick]

/-- The scale of a group is the reference's scale of its magnitude. -/
theorem rscl_at (v5 : FVec Ideal S4096x28x1 .f32) (r : Fin 4096) (l : Fin 28) : rscl v5 (ix3 r l 0) = rscale (v5 (ix3 r l 0)) := by
  unfold rscl
  rw [rpick_at, rleast_at, rstep_at]
  simp only [rcand_at, rpow_at, rstep_at]
  unfold rscale above
  rfl

/-- The quantiser's scales are these. -/
theorem pay5_eq (a : Vec Ideal S4096x3584 .f32) : k0_pay5 a = rscl (rmag (k0_pay4 a)) := by
  unfold k0_pay5 rscl rpick rleast rcand rstep rpow rmag
  rfl

/-- The quantiser's codes are these. -/
theorem pay6_eq (a : Vec Ideal S4096x3584 .f32) : k0_pay6 a = rcodes (k0_pay4 a) (k0_pay5 a) := by
  unfold k0_pay6 rcodes
  rfl

/-- The scale of a group is the layer's. -/
theorem pay5_at (a : Vec Ideal S4096x3584 .f32) (r : Fin 4096) (l : Fin 28) :
    k0_pay5 a (ix3 r l 0) = scaleOf (amaxOf (fun d => a (ix2 r d)) l) := by
  rw [pay5_eq, rscl_at, rscale_eq, rmag_at]
  simp only [pay4_at]
  rfl

/-- The stored scale of a group is the layer's. -/
theorem pay1_at (a : Vec Ideal S4096x3584 .f32) (r : Fin 4096) (l : Fin 28) :
    k0_pay1 (k0_pay5 a) (ix2 r l) = scaleOf (amaxOf (fun d => a (ix2 r d)) l) := by
  rw [← pay5_at]
  generalize k0_pay5 a = b
  pointwise [k0_pay1]

/-- The stored code is the layer's. -/
theorem pay6_at (a : Vec Ideal S4096x3584 .f32) (r : Fin 4096) (d : Fin 3584) :
    k0_pay6 a (ix2 r d) = codeOf (fun d => a (ix2 r d)) d := by
  rw [pay6_eq, rcodes_at, pay4_at, pay5_at a r ⟨d.val / 128, by omega⟩, div_scaleOf]
  have e : (⟨128 * (d.val / 128) + d.val % 128, by omega⟩ : Fin 3584) = d := Fin.ext (by show 128 * (d.val / 128) + d.val % 128 = d.val; omega)
  show clipOf (a (ix2 r ⟨128 * (d.val / 128) + d.val % 128, _⟩)) _ = _
  rw [e]
  rfl

end Cert.ReferenceIdeal.Gen
-- ==== Proof.RArrays.lean ====
/-
  What the reference's quantiser leaves in its result arrays, from the arguments.
-/
module
public import proofs.«01_k».proof.Proof.RQuant
public import proofs.«01_k».proof.Proof.Gen.ReferenceIdeal.Run
public import Idealize.ShloMosaic.Lib.Pipeline.ValueKit
public import Idealize.ShloMosaic.Lib.Claim
@[expose] public section
set_option maxRecDepth 16384
noncomputable section
namespace Cert.ReferenceIdeal.Gen
open Idealize.ShloMosaic Cert.ReferenceIdeal Cert.Qkv Idealize.ShloMosaic.Tactic Idealize.ShloMosaic.TcCoe

variable (m : (ℓ : Loc nD τ sig) → Buf (Elt Ideal) ℓ) (c : Dev nD)

/-- The arguments of the layer. -/
abbrev aX : Vec Ideal S4x1024x3584 .bf16 := m ((c : Thread nD τ).loc main_arg0)
/-- The gain of the row norm. -/
abbrev aN : Vec Ideal S3584 .bf16 := m ((c : Thread nD τ).loc main_arg1)
/-- The codes of the weight. -/
abbrev aW : Vec Ideal S3584x2048 .fp8e4m3 := m ((c : Thread nD τ).loc main_arg2)
/-- The scales of the weight. -/
abbrev aS : Vec Ideal S28x16 .f32 := m ((c : Thread nD τ).loc main_arg3)
/-- The positions at which the sequences begin. -/
abbrev aP : Vec Ideal S4 .i32 := m ((c : Thread nD τ).loc main_arg4)
/-- The gain of the norm of the queries. -/
abbrev aQ : Vec Ideal S256 .bf16 := m ((c : Thread nD τ).loc main_arg5)
/-- The gain of the norm of the keys. -/
abbrev aK : Vec Ideal S256 .bf16 := m ((c : Thread nD τ).loc main_arg6)

/-- The quantiser reads its two arrays whole. -/
theorem idx_facts : ∀ t : Fin cfg0.N, win0_0.index t = ![0, 0] ∧ win0_1.index t = ![0, 0] :=
  (by decide +kernel : ∀ t : Fin grid0.N, _)
/-- The block of the rows. -/
theorem idx0 : ∀ t : Fin cfg0.N, win0_0.index t = ![0, 0] := fun t => (idx_facts t).1
/-- The block of the weight. -/
theorem idx1 : ∀ t : Fin cfg0.N, win0_1.index t = ![0, 0] := fun t => (idx_facts t).2

/-- The normalised rows the quantiser finds. -/
abbrev hArr (t : Fin cfg0.N) : Vec Ideal S4096x3584 .f32 := iblk m c 0 t
/-- The weight the quantiser finds. -/
abbrev wArr (t : Fin cfg0.N) : Vec Ideal S3584x2048 .fp8e4m3 := iblk m c 1 t

/-- The rows it finds are those the host has normalised. -/
theorem hArr_V (t : Fin cfg0.N) (r : Fin 4096) (d : Fin 3584) :
    hArr m c t (ix2 r d) = (V m c main_v15 : Vec Ideal S4096x3584 .f32) (ix2 r d) := by
  blk_ext [iblk, idx0 t]

/-- The weight it finds is the argument. -/
theorem wArr_at (t : Fin cfg0.N) (k : Fin 3584) (n : Fin 2048) : wArr m c t (ix2 k n) = aW m c (ix2 k n) := by
  refine Eq.trans (?_ : _ = (V m c main_arg2 : Vec Ideal S3584x2048 .fp8e4m3) (ix2 k n)) (congrFun (V_main_arg2 m c) _)
  blk_ext [iblk, idx1 t]

/-- The host's norm of the rows. -/
def rnorm (x : Vec Ideal S4x1024x3584 .bf16) (w : Vec Ideal S3584 .bf16) : Vec Ideal S4096x3584 .f32 :=
  have v0 : FVec Ideal S4x1024x3584 .f32 := extf .f32 (show FVec Ideal S4x1024x3584 .bf16 from x) bitsLt_bf16_f32
  have v7 : FVec Ideal S4x1024x1 .f32 := addf (Host.divf (broadcastInDim S4x1024x1 ![0, 1] bcast_S4x1024_S4x1024x1_0_1
      (Host.reduceAdd (mulf v0 v0) (constant S_ .f32 0x00000000#32) reducesTo_S4x1024x3584_S4x1024_d2 h_S_))
    (broadcastInDim S4x1024x1 ![] bcast_S_S4x1024x1 (constant S_ .f32 0x45600000#32))) (broadcastInDim S4x1024x1 ![] bcast_S_S4x1024x1 (constant S_ .f32 0x358637BD#32))
  have v14 : FVec Ideal S4x1024x3584 .f32 := mulf (mulf v0 (broadcastInDim S4x1024x3584 ![0, 1, 2] bcast_S4x1024x1_S4x1024x3584_0_1_2 (Host.rsqrt v7)))
    (broadcastInDim S4x1024x3584 ![0, 1, 2] bcast_S1x1x3584_S4x1024x3584_0_1_2 (broadcastInDim S1x1x3584 ![2] bcast_S3584_S1x1x3584_2
      (extf .f32 (show FVec Ideal S3584 .bf16 from w) bitsLt_bf16_f32)))
  shapeCast S4096x3584 v14 shapeCasts_S4x1024x3584_S4096x3584

set_option maxHeartbeats 2000000 in
/-- What the host hands to the quantiser is its norm of the rows. -/
theorem host_v15 (V0 : Valuation τ sig (Elt Ideal)) : StableHlo.after hostOps0 V0 (Proc.devRef .tc main_v15)
    = rnorm (V0 (Proc.devRef .tc main_arg0)) (V0 (Proc.devRef .tc main_arg1)) := by
  simp only [hostOps0]
  after_results_simp
  rfl

/-- A row of the host's norm is the RMS norm of that token. -/
theorem rnorm_at (x : Vec Ideal S4x1024x3584 .bf16) (w : Vec Ideal S3584 .bf16) (r : Fin 4096) (d : Fin 3584) :
    rnorm x w (ix2 r d) = rowH x w (seqOf r) (tokOf r) d := by
  pointwise [rnorm]
  rfl

/-- The same, of the array in memory. -/
theorem V15_at (r : Fin 4096) (d : Fin 3584) :
    (V m c main_v15 : Vec Ideal S4096x3584 .f32) (ix2 r d) = rowH (aX m c) (aN m c) (seqOf r) (tokOf r) d :=
  (congrFun (host_v15 fun b => m (c, b)) (ix2 r d)).trans (rnorm_at _ _ r d)

/-- The rows the quantiser finds are the normalised tokens. -/
theorem hArr_row (t : Fin cfg0.N) (r : Fin 4096) : (fun d => hArr m c t (ix2 r d)) = rowH (aX m c) (aN m c) (seqOf r) (tokOf r) :=
  funext fun d => (hArr_V m c t r d).trans (V15_at m c r d)

/-- The quantiser writes its four results whole. -/
theorem idxo_facts : ∀ t : Fin cfg0.N, win0_2.index t = ![0, 0] ∧ win0_3.index t = ![0, 0] ∧ win0_4.index t = ![0, 0] ∧ win0_5.index t = ![0, 0] :=
  (by decide +kernel : ∀ t : Fin grid0.N, _)
/-- The block of this result. -/
theorem idxo2 : ∀ t : Fin cfg0.N, win0_2.index t = ![0, 0] := fun t => (idxo_facts t).1
/-- The block of this result. -/
theorem idxo3 : ∀ t : Fin cfg0.N, win0_3.index t = ![0, 0] := fun t => (idxo_facts t).2.1
/-- The block of this result. -/
theorem idxo4 : ∀ t : Fin cfg0.N, win0_4.index t = ![0, 0] := fun t => (idxo_facts t).2.2.1
/-- The block of this result. -/
theorem idxo5 : ∀ t : Fin cfg0.N, win0_5.index t = ![0, 0] := fun t => (idxo_facts t).2.2.2

/-- The codes. -/
theorem codes_arr : Value.reg_main_v16_0 m c = (resCodes (aX m c) (aN m c) : Vec Ideal S4096x3584 .fp8e4m3) := by
  refine (dats m 0 c).arrAt_eq_of_covers 2 _ (by decide +kernel) fun t hf y => ?_
  blk_simp
  rw [after0_2]
  frame_out
  refine Eq.trans (?_ : _ = (resCodes (aX m c) (aN m c) : Vec Ideal S4096x3584 .fp8e4m3) (ix2 (y 0) (y 1))) ?_
  · exact (congrArg (k0_pay6 (hArr m c t)) (eq_ix2 y)).trans ((pay6_at (hArr m c t) (y 0) (y 1)).trans (congrArg (fun h => codeOf h (y 1)) (hArr_row m c t (y 0))))
  · blk_ext [idxo2 t]

/-- The scales. -/
theorem scales_arr : Value.reg_main_v16_1 m c = (resScales (aX m c) (aN m c) : Vec Ideal S4096x28 .f32) := by
  refine (dats m 0 c).arrAt_eq_of_covers 3 _ (by decide +kernel) fun t hf y => ?_
  blk_simp
  rw [after0_3]
  frame_out
  refine Eq.trans (?_ : _ = (resScales (aX m c) (aN m c) : Vec Ideal S4096x28 .f32) (ix2 (y 0) (y 1))) ?_
  · exact (congrArg (k0_pay1 (k0_pay5 (hArr m c t))) (eq_ix2 y)).trans ((pay1_at (hArr m c t) (y 0) (y 1)).trans (congrArg (fun h => scaleOf (amaxOf h (y 1))) (hArr_row m c t (y 0))))
  · blk_ext [idxo3 t]

/-- The codes, as the product reads them. -/
theorem codes16_arr : Value.reg_main_v16_2 m c = (resCodes (aX m c) (aN m c) : Vec Ideal S4096x3584 .bf16) := by
  refine (dats m 0 c).arrAt_eq_of_covers 4 _ (by decide +kernel) fun t hf y => ?_
  blk_simp
  rw [after0_4]
  frame_out
  refine Eq.trans (?_ : _ = (resCodes (aX m c) (aN m c) : Vec Ideal S4096x3584 .bf16) (ix2 (y 0) (y 1))) ?_
  · exact (congrArg (k0_pay6 (hArr m c t)) (eq_ix2 y)).trans ((pay6_at (hArr m c t) (y 0) (y 1)).trans (congrArg (fun h => codeOf h (y 1)) (hArr_row m c t (y 0))))
  · blk_ext [idxo4 t]

/-- The weight's codes, as the product reads them. -/
theorem weight16_arr : Value.reg_main_v16_3 m c = (aW m c : Vec Ideal S3584x2048 .bf16) := by
  refine (dats m 0 c).arrAt_eq_of_covers 5 _ (by decide +kernel) fun t hf y => ?_
  blk_simp
  rw [after0_5]
  frame_out
  refine Eq.trans (?_ : _ = (aW m c : Vec Ideal S3584x2048 .bf16) (ix2 (y 0) (y 1))) ?_
  · exact (congrArg (wArr m c t) (eq_ix2 y)).trans (wArr_at m c t (y 0) (y 1))
  · blk_ext [idxo5 t]

end Cert.ReferenceIdeal.Gen
-- ==== Proof.RProj.lean ====
/-
  The reference's projection at an index.
-/
module
public import proofs.«01_k».proof.Proof.Rows
public import proofs.«01_k».proof.Proof.Gen.ReferenceIdeal.Run
@[expose] public section
set_option maxRecDepth 16384
noncomputable section
namespace Cert.ReferenceIdeal.Gen
open Idealize.ShloMosaic Cert.ReferenceIdeal Cert.Qkv

/-- The dequantised activations, of the codes and the scales. -/
def rxa (q : Vec Ideal S4096x3584 .bf16) (s : Vec Ideal S4096x28 .f32) : Vec Ideal S4x1024x3584 .bf16 :=
  shapeCast _ (mulf (F := Ideal) (shapeCast S4x1024x28x128 q shapeCasts_S4096x3584_S4x1024x28x128) (broadcastInDim S4x1024x28x128 ![0, 1, 2, 3] bcast_S4x1024x28x1_S4x1024x28x128_0_1_2_3 (shapeCast S4x1024x28x1 (truncf (F := Ideal) .bf16 s bitsLt_bf16_f32) shapeCasts_S4096x28_S4x1024x28x1))) shapeCasts_S4x1024x28x128_S4x1024x3584

/-- The dequantised weight. -/
def rwa (w : Vec Ideal S3584x2048 .bf16) (s : Vec Ideal S28x16 .f32) : Vec Ideal S3584x2048 .bf16 :=
  shapeCast _ (mulf (F := Ideal) (shapeCast S28x128x16x128 w shapeCasts_S3584x2048_S28x128x16x128) (broadcastInDim S28x128x16x128 ![0, 1, 2, 3] bcast_S28x1x16x1_S28x128x16x128_0_1_2_3 (broadcastInDim S28x1x16x1 ![0, 2] bcast_S28x16_S28x1x16x1_0_2 (truncf (F := Ideal) .bf16 s bitsLt_bf16_f32)))) shapeCasts_S28x128x16x128_S3584x2048

/-- The product. -/
def rdot (a : Vec Ideal S4x1024x3584 .bf16) (w : Vec Ideal S3584x2048 .bf16) : Vec Ideal S4x1024x2048 .f32 :=
  Host.dotGeneral (F := Ideal) (φ₁ := .bf16) (φ₂ := .bf16) dot_S4x1024x3584_S3584x2048_S4x1024x2048_2_0_01_1_n_n none a w

/-- A code times its group's scale. -/
theorem rxa_at (q : Vec Ideal S4096x3584 .bf16) (s : Vec Ideal S4096x28 .f32) (b : Fin 4) (t : Fin 1024) (d : Fin 3584) :
    rxa q s (ix3 b t d) = q (ix2 ⟨1024 * b.val + t.val, by omega⟩ d) * s (ix2 ⟨1024 * b.val + t.val, by omega⟩ (grp d)) := by
  pointwise [rxa]
  simp only [Nat.mul_comm b.val 1024]
  rfl
/-- A weight's code times its block's scale. -/
theorem rwa_at (w : Vec Ideal S3584x2048 .bf16) (s : Vec Ideal S28x16 .f32) (k : Fin 3584) (n : Fin 2048) :
    rwa w s (ix2 k n) = w (ix2 k n) * s (ix2 (grp k) ⟨n.val / 128, by omega⟩) := by
  pointwise [rwa]
  rfl
/-- An entry of the product is the sum over 3584 columns. -/
theorem rdot_at (a : Vec Ideal S4x1024x3584 .bf16) (w : Vec Ideal S3584x2048 .bf16) (b : Fin 4) (t : Fin 1024) (n : Fin 2048) :
    rdot a w (ix3 b t n) = ∑ k : Fin 3584, a (ix3 b t k) * w (ix2 k n) := by
  pointwise [rdot]

/-- The host's product. -/
theorem v29_eq (V0 : Valuation τ sig (Elt Ideal)) : Value.res_main_v29 V0
    = rdot (rxa (V0 (Proc.devRef .tc main_v16_2)) (V0 (Proc.devRef .tc main_v16_1))) (rwa (V0 (Proc.devRef .tc main_v16_3)) (V0 (Proc.devRef .tc main_arg3))) := rfl
end Cert.ReferenceIdeal.Gen
-- ==== Proof.RHeads.lean ====
/-
  The reference's heads at an index: the columns of the product, the head norm and the rotation.
-/
module
public import proofs.«01_k».proof.Proof.RProj
@[expose] public section
set_option maxRecDepth 16384
noncomputable section
namespace Cert.ReferenceIdeal.Gen
open Idealize.ShloMosaic Cert.ReferenceIdeal Cert.Qkv

/-- The rotation angles, of the sequences' offsets. -/
def rang (p : Vec Ideal S4 .i32) : FVec Ideal S4x1024x128 .f32 :=
  mulf (broadcastInDim S4x1024x128 ![0, 1, 2] bcast_S4x1024x1_S4x1024x128_0_1_2 (broadcastInDim S4x1024x1 ![0, 1] bcast_S4x1024_S4x1024x1_0_1 (sitofp .f32 (addi (broadcastInDim S4x1024 ![0, 1] bcast_S4x1_S4x1024_0_1 (broadcastInDim S4x1 ![0] bcast_S4_S4x1_0 (show IVec S4 32 from p))) (broadcastInDim S4x1024 ![0, 1] bcast_S1x1024_S4x1024_0_1 (broadcastInDim S1x1024 ![1] bcast_S1024_S1x1024_1 (iotaInDim S1024 32 0))))))) (broadcastInDim S4x1024x128 ![0, 1, 2] bcast_S1x1x128_S4x1024x128_0_1_2 (broadcastInDim S1x1x128 ![2] bcast_S128_S1x1x128_2 (Host.powf (broadcastInDim S128 ![] bcast_S_S128 (constant S_ .f32 0x461C4000#32)) (Host.divf (Host.negf (addf (broadcastInDim S128 ![] bcast_S_S128 (constant S_ .f32 0x00000000#32)) (mulf (broadcastInDim S128 ![] bcast_S_S128 (constant S_ .f32 0x40000000#32)) (sitofp .f32 (iotaInDim S128 32 0))))) (broadcastInDim S128 ![] bcast_S_S128 (constant S_ .f32 0x43800000#32))))))

/-- The angle of a token and a frequency. -/
theorem rang_at (p : Vec Ideal S4 .i32) (b : Fin 4) (t : Fin 1024) (k : Fin 128) : rang p (ix3 b t k) = angOf p b t k := by
  unfold angOf freqOf
  pointwise [rang]
  rfl

/-- The host's angles. -/
theorem v85_eq (V0 : Valuation τ sig (Elt Ideal)) : Value.res_main_v85 V0 = rang (V0 (Proc.devRef .tc main_arg4)) := rfl

/-- The columns of the queries, in heads. -/
def rcq (p : FVec Ideal S4x1024x2048 .f32) : FVec Ideal S4x1024x4x256 .f32 :=
  shapeCast _ (extractStridedSlice S4x1024x1024 ![0, 0, 0] p slices_S4x1024x2048_S4x1024x1024_0_0_0) shapeCasts_S4x1024x1024_S4x1024x4x256

/-- The columns of head `h` of the queries. -/
theorem rcq_at (p : FVec Ideal S4x1024x2048 .f32) (b : Fin 4) (t : Fin 1024) (h : Fin 4) (d : Fin 256) :
    rcq p (ix4 b t h d) = p (ix3 b t ⟨256 * h.val + d.val, by omega⟩) := by
  pointwise [rcq]
  exact congrArg (fun k => p (ix3 b t k)) (Fin.ext (by show h.val * 256 + d.val = 256 * h.val + d.val; omega))

/-- The norm of the heads of the queries. -/
def rnq (v : FVec Ideal S4x1024x4x256 .f32) (g : Vec Ideal S256 .bf16) : FVec Ideal S4x1024x4x256 .f32 :=
  mulf (mulf v (broadcastInDim S4x1024x4x256 ![0, 1, 2, 3] bcast_S4x1024x4x1_S4x1024x4x256_0_1_2_3 (Host.rsqrt (addf (Host.divf (broadcastInDim S4x1024x4x1 ![0, 1, 2] bcast_S4x1024x4_S4x1024x4x1_0_1_2 (Host.reduceAdd (mulf v v) (constant S_ .f32 0x00000000#32) reducesTo_S4x1024x4x256_S4x1024x4_d3 h_S_)) (broadcastInDim S4x1024x4x1 ![] bcast_S_S4x1024x4x1 (constant S_ .f32 0x43800000#32))) (broadcastInDim S4x1024x4x1 ![] bcast_S_S4x1024x4x1 (constant S_ .f32 0x358637BD#32)))))) (broadcastInDim S4x1024x4x256 ![0, 1, 2, 3] bcast_S1x1x1x256_S4x1024x4x256_0_1_2_3 (broadcastInDim S1x1x1x256 ![3] bcast_S256_S1x1x1x256_3 (extf .f32 (show FVec Ideal S256 .bf16 from g) bitsLt_bf16_f32)))

/-- Each head is normalised by itself. -/
theorem rnq_at (v : FVec Ideal S4x1024x4x256 .f32) (g : Vec Ideal S256 .bf16) (b : Fin 4) (t : Fin 1024) (h : Fin 4) (d : Fin 256) :
    rnq v g (ix4 b t h d) = headOf (fun d => v (ix4 b t h d)) (fun d => g (ix1 d)) d := by
  unfold headOf normOf
  pointwise [rnq]

/-- The rotation of the heads of the queries, laid out by tokens. -/
def rrq (n : FVec Ideal S4x1024x4x256 .f32) (ang : FVec Ideal S4x1024x128 .f32) : Vec Ideal S4096x1024 .bf16 :=
  have lo : FVec Ideal S4x1024x4x128 .f32 := extractStridedSlice S4x1024x4x128 ![0, 0, 0, 0] n slices_S4x1024x4x256_S4x1024x4x128_0_0_0_0
  have hi : FVec Ideal S4x1024x4x128 .f32 := extractStridedSlice S4x1024x4x128 ![0, 0, 0, 128] n slices_S4x1024x4x256_S4x1024x4x128_0_0_0_128
  have co : FVec Ideal S4x1024x4x128 .f32 := broadcastInDim S4x1024x4x128 ![0, 1, 2, 3] bcast_S4x1024x1x128_S4x1024x4x128_0_1_2_3 (broadcastInDim S4x1024x1x128 ![0, 1, 3] bcast_S4x1024x128_S4x1024x1x128_0_1_3 (Host.cos ang))
  have si : FVec Ideal S4x1024x4x128 .f32 := broadcastInDim S4x1024x4x128 ![0, 1, 2, 3] bcast_S4x1024x1x128_S4x1024x4x128_0_1_2_3 (broadcastInDim S4x1024x1x128 ![0, 1, 3] bcast_S4x1024x128_S4x1024x1x128_0_1_3 (Host.sin ang))
  have v : FVec Ideal S4x1024x4x256 .f32 := concatenate S4x1024x4x256 3 [⟨S4x1024x4x128, subf (mulf lo co) (mulf hi si)⟩, ⟨S4x1024x4x128, addf (mulf hi co) (mulf lo si)⟩] concatenates_S4x1024x4x128_S4x1024x4x128_S4x1024x4x256_d3
  shapeCast _ (truncf .bf16 v bitsLt_bf16_f32) shapeCasts_S4x1024x4x256_S4096x1024

/-- Each head of the queries is rotated by its token's angles. -/
theorem rrq_at (n : FVec Ideal S4x1024x4x256 .f32) (ang : FVec Ideal S4x1024x128 .f32) (r : Fin 4096) (y : Fin 1024) :
    rrq n ang (ix2 r y) = rotOf (fun d => n (ix4 (seqOf r) (tokOf r) ⟨y.val / 256, by omega⟩ d)) (fun k => ang (ix3 (seqOf r) (tokOf r) k)) ⟨y.val % 256, Nat.mod_lt _ (by decide)⟩ := by
  unfold rotOf
  pointwise [rrq]
  refine dite_congr rfl (fun h => rfl) (fun h => ?_)
  have e : 128 + (y.val % 256 - 128) = y.val % 256 := by have h' : ¬ y.val % 256 < 128 := h; omega
  simp only [e]

/-- The host's queries, in heads. -/
theorem v31_eq (V0 : Valuation τ sig (Elt Ideal)) : Value.res_main_v31 V0 = rcq (Value.res_main_v29 V0) := rfl
/-- The host's norm of the queries. -/
theorem v49_eq (V0 : Valuation τ sig (Elt Ideal)) : Value.res_main_v49 V0 = rnq (Value.res_main_v31 V0) (V0 (Proc.devRef .tc main_arg5)) := rfl

/-- The columns of the keys, in heads. -/
def rck (p : FVec Ideal S4x1024x2048 .f32) : FVec Ideal S4x1024x2x256 .f32 :=
  shapeCast _ (extractStridedSlice S4x1024x512 ![0, 0, 1024] p slices_S4x1024x2048_S4x1024x512_0_0_1024) shapeCasts_S4x1024x512_S4x1024x2x256

/-- The columns of head `h` of the keys. -/
theorem rck_at (p : FVec Ideal S4x1024x2048 .f32) (b : Fin 4) (t : Fin 1024) (h : Fin 2) (d : Fin 256) :
    rck p (ix4 b t h d) = p (ix3 b t ⟨1024 + 256 * h.val + d.val, by omega⟩) := by
  pointwise [rck]
  exact congrArg (fun k => p (ix3 b t k)) (Fin.ext (by show 1024 + (h.val * 256 + d.val) = 1024 + 256 * h.val + d.val; omega))

/-- The norm of the heads of the keys. -/
def rnk (v : FVec Ideal S4x1024x2x256 .f32) (g : Vec Ideal S256 .bf16) : FVec Ideal S4x1024x2x256 .f32 :=
  mulf (mulf v (broadcastInDim S4x1024x2x256 ![0, 1, 2, 3] bcast_S4x1024x2x1_S4x1024x2x256_0_1_2_3 (Host.rsqrt (addf (Host.divf (broadcastInDim S4x1024x2x1 ![0, 1, 2] bcast_S4x1024x2_S4x1024x2x1_0_1_2 (Host.reduceAdd (mulf v v) (constant S_ .f32 0x00000000#32) reducesTo_S4x1024x2x256_S4x1024x2_d3 h_S_)) (broadcastInDim S4x1024x2x1 ![] bcast_S_S4x1024x2x1 (constant S_ .f32 0x43800000#32))) (broadcastInDim S4x1024x2x1 ![] bcast_S_S4x1024x2x1 (constant S_ .f32 0x358637BD#32)))))) (broadcastInDim S4x1024x2x256 ![0, 1, 2, 3] bcast_S1x1x1x256_S4x1024x2x256_0_1_2_3 (broadcastInDim S1x1x1x256 ![3] bcast_S256_S1x1x1x256_3 (extf .f32 (show FVec Ideal S256 .bf16 from g) bitsLt_bf16_f32)))

/-- Each head is normalised by itself. -/
theorem rnk_at (v : FVec Ideal S4x1024x2x256 .f32) (g : Vec Ideal S256 .bf16) (b : Fin 4) (t : Fin 1024) (h : Fin 2) (d : Fin 256) :
    rnk v g (ix4 b t h d) = headOf (fun d => v (ix4 b t h d)) (fun d => g (ix1 d)) d := by
  unfold headOf normOf
  pointwise [rnk]

/-- The rotation of the heads of the keys, laid out by tokens. -/
def rrk (n : FVec Ideal S4x1024x2x256 .f32) (ang : FVec Ideal S4x1024x128 .f32) : Vec Ideal S4096x512 .bf16 :=
  have lo : FVec Ideal S4x1024x2x128 .f32 := extractStridedSlice S4x1024x2x128 ![0, 0, 0, 0] n slices_S4x1024x2x256_S4x1024x2x128_0_0_0_0
  have hi : FVec Ideal S4x1024x2x128 .f32 := extractStridedSlice S4x1024x2x128 ![0, 0, 0, 128] n slices_S4x1024x2x256_S4x1024x2x128_0_0_0_128
  have co : FVec Ideal S4x1024x2x128 .f32 := broadcastInDim S4x1024x2x128 ![0, 1, 2, 3] bcast_S4x1024x1x128_S4x1024x2x128_0_1_2_3 (broadcastInDim S4x1024x1x128 ![0, 1, 3] bcast_S4x1024x128_S4x1024x1x128_0_1_3 (Host.cos ang))
  have si : FVec Ideal S4x1024x2x128 .f32 := broadcastInDim S4x1024x2x128 ![0, 1, 2, 3] bcast_S4x1024x1x128_S4x1024x2x128_0_1_2_3 (broadcastInDim S4x1024x1x128 ![0, 1, 3] bcast_S4x1024x128_S4x1024x1x128_0_1_3 (Host.sin ang))
  have v : FVec Ideal S4x1024x2x256 .f32 := concatenate S4x1024x2x256 3 [⟨S4x1024x2x128, subf (mulf lo co) (mulf hi si)⟩, ⟨S4x1024x2x128, addf (mulf hi co) (mulf lo si)⟩] concatenates_S4x1024x2x128_S4x1024x2x128_S4x1024x2x256_d3
  shapeCast _ (truncf .bf16 v bitsLt_bf16_f32) shapeCasts_S4x1024x2x256_S4096x512

/-- Each head of the keys is rotated by its token's angles. -/
theorem rrk_at (n : FVec Ideal S4x1024x2x256 .f32) (ang : FVec Ideal S4x1024x128 .f32) (r : Fin 4096) (y : Fin 512) :
    rrk n ang (ix2 r y) = rotOf (fun d => n (ix4 (seqOf r) (tokOf r) ⟨y.val / 256, by omega⟩ d)) (fun k => ang (ix3 (seqOf r) (tokOf r) k)) ⟨y.val % 256, Nat.mod_lt _ (by decide)⟩ := by
  unfold rotOf
  pointwise [rrk]
  refine dite_congr rfl (fun h => rfl) (fun h => ?_)
  have e : 128 + (y.val % 256 - 128) = y.val % 256 := by have h' : ¬ y.val % 256 < 128 := h; omega
  simp only [e]

/-- The host's keys, in heads. -/
theorem v33_eq (V0 : Valuation τ sig (Elt Ideal)) : Value.res_main_v33 V0 = rck (Value.res_main_v29 V0) := rfl
/-- The host's norm of the keys. -/
theorem v63_eq (V0 : Valuation τ sig (Elt Ideal)) : Value.res_main_v63 V0 = rnk (Value.res_main_v33 V0) (V0 (Proc.devRef .tc main_arg6)) := rfl

end Cert.ReferenceIdeal.Gen
-- ==== Proof.RResult.lean ====
/-
  The reference's results as the layer's, from the arguments.
-/
module
public import proofs.«01_k».proof.Proof.RArrays
public import proofs.«01_k».proof.Proof.RHeads
@[expose] public section
set_option maxRecDepth 16384
noncomputable section
namespace Cert.ReferenceIdeal.Gen
open Idealize.ShloMosaic Cert.ReferenceIdeal Cert.Qkv Idealize.SL.Sem Idealize.ShloMosaic.Tactic Idealize.ShloMosaic.TcCoe

variable (m : (ℓ : Loc nD τ sig) → Buf (Elt Ideal) ℓ) (c : Dev nD)

/-- The product the host computes. -/
abbrev rprod : FVec Ideal S4x1024x2048 .f32 := Value.res_main_v29 (Value.exitV m c)

/-- The product, of the codes, the scales and the weight. -/
theorem prod_eq : rprod m c = rdot (rxa (resCodes (aX m c) (aN m c)) (resScales (aX m c) (aN m c))) (rwa (aW m c) (aS m c)) := by
  refine (v29_eq _).trans ?_
  rw [Value.exit_main_v16_1, Value.exit_main_v16_2, Value.exit_main_v16_3, Value.exit_main_arg3, codes16_arr, scales_arr, weight16_arr]

/-- Row `1024 b + s` is token `s` of sequence `b`. -/
theorem row_of (b : Fin 4) (s : Fin 1024) (h : 1024 * b.val + s.val < 4096) :
    seqOf ⟨1024 * b.val + s.val, h⟩ = b ∧ tokOf ⟨1024 * b.val + s.val, h⟩ = s :=
  ⟨Fin.ext (by show (1024 * b.val + s.val) / 1024 = b.val; omega), Fin.ext (by show (1024 * b.val + s.val) % 1024 = s.val; omega)⟩

/-- A row of the product. -/
theorem prod_at (b : Fin 4) (s : Fin 1024) (n : Fin 2048) :
    rprod m c (ix3 b s n) = rowProj (aX m c) (aN m c) (aW m c) (aS m c) b s n := by
  rw [prod_eq]
  unfold rowProj projOf
  refine (rdot_at _ _ b s n).trans (Finset.sum_congr rfl fun k _ => ?_)
  refine congrArg₂ (fun a w : EReal => a * w) ((rxa_at _ _ b s k).trans ?_) (rwa_at _ _ k n)
  obtain ⟨e1, e2⟩ := row_of b s (by omega)
  exact congrArg₂ (fun b s => codeOf (rowH (aX m c) (aN m c) b s) k * scaleOf (amaxOf (rowH (aX m c) (aN m c) b s) (grp k))) e1 e2

/-- The values, of the product. -/
def rvals (p : FVec Ideal S4x1024x2048 .f32) : Vec Ideal S4096x512 .bf16 :=
  shapeCast _ (truncf .bf16 (shapeCast S4x1024x2x256 (extractStridedSlice S4x1024x512 ![0, 0, 1536] p slices_S4x1024x2048_S4x1024x512_0_0_1536) shapeCasts_S4x1024x512_S4x1024x2x256) bitsLt_bf16_f32) shapeCasts_S4x1024x2x256_S4096x512

/-- The values are the last 512 columns of the product. -/
theorem rvals_at (p : FVec Ideal S4x1024x2048 .f32) (r : Fin 4096) (y : Fin 512) :
    rvals p (ix2 r y) = p (ix3 (seqOf r) (tokOf r) ⟨1536 + y.val, by omega⟩) := by
  pointwise [rvals]

/-- The values. -/
theorem values_res : rvals (rprod m c) = (resV (aX m c) (aN m c) (aW m c) (aS m c) : Vec Ideal S4096x512 .bf16) := by
  funext y
  exact (congrArg (rvals (rprod m c)) (eq_ix2 y)).trans ((rvals_at _ (y 0) (y 1)).trans (prod_at m c _ _ _))

/-- The rotation angles are those of the sequences' offsets. -/
theorem angles_eq : Value.res_main_v85 (Value.exitV m c) = rang (aP m c) :=
  (v85_eq _).trans (congrArg rang (Value.exit_main_arg4 m c))

/-- The queries. -/
theorem queries_res : rrq (Value.res_main_v49 (Value.exitV m c)) (Value.res_main_v85 (Value.exitV m c))
    = (resHeads (aX m c) (aN m c) (aW m c) (aS m c) (aP m c) (aQ m c) 1024 0 (by decide) (by decide) : Vec Ideal S4096x1024 .bf16) := by
  rw [angles_eq, v49_eq, v31_eq, Value.exit_main_arg5]
  funext y
  have h1 : (y 1).val < 1024 := (y 1).isLt
  refine (congrArg (rrq _ _) (eq_ix2 y)).trans ((rrq_at _ _ (y 0) (y 1)).trans ?_)
  refine congrArg₂ (fun n a => rotOf n a _) (funext fun d => (rnq_at _ _ _ _ _ d).trans ?_) (funext fun k => rang_at _ _ _ k)
  refine congrArg (fun v => headOf v (fun d => aQ m c (ix1 d)) d) (funext fun d => ((rcq_at _ _ _ _ d).trans (prod_at m c _ _ _)).trans ?_)
  refine congrArg (rowProj (aX m c) (aN m c) (aW m c) (aS m c) (seqOf (y 0)) (tokOf (y 0))) (Fin.ext ?_)
  show 256 * ((y 1).val / 256) + d.val = 0 + 256 * ((y 1).val / 256) + d.val
  omega

/-- The keys. -/
theorem keys_res : rrk (Value.res_main_v63 (Value.exitV m c)) (Value.res_main_v85 (Value.exitV m c))
    = (resHeads (aX m c) (aN m c) (aW m c) (aS m c) (aP m c) (aK m c) 512 1024 (by decide) (by decide) : Vec Ideal S4096x512 .bf16) := by
  rw [angles_eq, v63_eq, v33_eq, Value.exit_main_arg6]
  funext y
  have h1 : (y 1).val < 512 := (y 1).isLt
  refine (congrArg (rrk _ _) (eq_ix2 y)).trans ((rrk_at _ _ (y 0) (y 1)).trans ?_)
  refine congrArg₂ (fun n a => rotOf n a _) (funext fun d => (rnk_at _ _ _ _ _ d).trans ?_) (funext fun k => rang_at _ _ _ k)
  exact congrArg (fun v => headOf v (fun d => aK m c (ix1 d)) d) (funext fun d => (rck_at _ _ _ _ d).trans (prod_at m c _ _ _))

/-- The reference's run: its results are the layer's, its arguments are kept. -/
theorem run_res (ρ : Dev nD → PrngReg) :
    θ_run defs (onTc (τ := τ) (main (F := Ideal))) ⟨m, fun _ => 0, ρ⟩ fun r => ∀ c : Dev nD,
      r.2.mem ((c.tc : Thread nD τ).loc main_v117)
        = (resHeads (aX m c) (aN m c) (aW m c) (aS m c) (aP m c) (aQ m c) 1024 0 (by decide) (by decide) : Vec Ideal S4096x1024 .bf16)
      ∧ r.2.mem ((c.tc : Thread nD τ).loc main_v119)
        = (resHeads (aX m c) (aN m c) (aW m c) (aS m c) (aP m c) (aK m c) 512 1024 (by decide) (by decide) : Vec Ideal S4096x512 .bf16)
      ∧ r.2.mem ((c.tc : Thread nD τ).loc main_v121) = (resV (aX m c) (aN m c) (aW m c) (aS m c) : Vec Ideal S4096x512 .bf16)
      ∧ r.2.mem ((c.tc : Thread nD τ).loc main_v16_0) = (resCodes (aX m c) (aN m c) : Vec Ideal S4096x3584 .fp8e4m3)
      ∧ r.2.mem ((c.tc : Thread nD τ).loc main_v16_1) = (resScales (aX m c) (aN m c) : Vec Ideal S4096x28 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => by
    obtain ⟨h1, h2, h3, h4, h5, hr⟩ := h c
    exact ⟨h1.trans (queries_res m c), h2.trans (keys_res m c), h3.trans (values_res m c), h4.trans (codes_arr m c), h5.trans (scales_arr m c), hr⟩) (Value.run m ρ)

end Cert.ReferenceIdeal.Gen
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KResult
public import proofs.«01_k».proof.Proof.RResult
public import Idealize.ShloMosaic.Adequacy
public import Idealize.ShloMosaic.Init

@[expose] public section

noncomputable section

namespace Cert.Proof

open Idealize.ShloMosaic Idealize.SL.Sem Cert.Kernel

/-- The kernel and the reference both end with the layer's results of the arguments. -/
theorem algebraic : Cert.algebraic_KernelIdeal_ReferenceIdeal (hKernelIdeal := Cert.KernelIdeal.Gen.facts) (hReferenceIdeal := Cert.ReferenceIdeal.Gen.facts) := by
  intro m g m' g' _ ha
  refine ⟨Cert.KernelIdeal.Value.G8 m, Cert.KernelIdeal.Value.G9 m, Cert.KernelIdeal.Value.G10 m, Cert.KernelIdeal.Value.G11 m, Cert.KernelIdeal.Value.G12 m,
    Cert.KernelIdeal.Value.run m g, (θ_run Cert.ReferenceIdeal.defs _ _).mono (fun _ h c => ?_) (Cert.ReferenceIdeal.Gen.run_res m' g')⟩
  obtain ⟨h1, h2, h3, h4, h5, hr⟩ := h c
  obtain ⟨a0, a1, a2, a3, a4, a5, a6⟩ := ha c
  unfold Cert.ReferenceIdeal.Gen.aX Cert.ReferenceIdeal.Gen.aN at h1 h2 h3 h4 h5
  unfold Cert.ReferenceIdeal.Gen.aW Cert.ReferenceIdeal.Gen.aS at h1 h2 h3
  unfold Cert.ReferenceIdeal.Gen.aP at h1 h2
  unfold Cert.ReferenceIdeal.Gen.aQ at h1
  unfold Cert.ReferenceIdeal.Gen.aK at h2
  rw [a0, a1, a2, a3, a4, a5] at h1
  rw [a0, a1, a2, a3, a4, a6] at h2
  rw [a0, a1, a2, a3] at h3
  rw [a0, a1] at h4 h5
  exact ⟨h1.trans (Cert.KernelIdeal.Gen.q_res m c).symm, h2.trans (Cert.KernelIdeal.Gen.k_res m c).symm, h3.trans (Cert.KernelIdeal.Gen.v_res m c).symm,
    h4.trans (Cert.KernelIdeal.Gen.codes_res m c).symm, h5.trans (Cert.KernelIdeal.Gen.scales_res m c).symm, hr⟩

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, fun m ρ _ => Cert.ReferenceIdeal.Gen.frame m ρ, trivial, algebraic⟩

end Cert.Proof

end
